-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S32768x128 : Shape := ⟨2, ![32768, 128]⟩
abbrev S32768 : Shape := ⟨1, ![32768]⟩
abbrev S128x1 : Shape := ⟨2, ![128, 1]⟩
abbrev S1 : Shape := ⟨1, ![1]⟩
abbrev S128x8 : Shape := ⟨2, ![128, 8]⟩
abbrev S8 : Shape := ⟨1, ![8]⟩
abbrev S_ : Shape := ⟨0, ![]⟩

class Facts : Prop where
  bcast_S_S32768x128 : S_.BroadcastsInDim S32768x128 (![] : Fin 0 → Fin S32768x128.rank)
  bcast_S_S128x1 : S_.BroadcastsInDim S128x1 (![] : Fin 0 → Fin S128x1.rank)
  bcast_S_S1 : S_.BroadcastsInDim S1 (![] : Fin 0 → Fin S1.rank)
  bcast_S_S32768 : S_.BroadcastsInDim S32768 (![] : Fin 0 → Fin S32768.rank)

variable [Facts]

def fn {F : FTy → Type} [FloatOps F] (main_arg0 : FVec F S32768x128 .f32) (main_arg1 : IVec S32768 32) (main_arg2 : FVec F S128x1 .f32) (main_arg3 : FVec F S1 .f32) (main_arg4 : FVec F S128x8 .f32) (main_arg5 : FVec F S8 .f32) : IVec S32768x128 1 × IVec S128x1 1 × IVec S1 1 × IVec S32768 1 × IVec S32768 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_v3 : FVec F S128x1 .f32 := Host.absf main_arg2
  let main_cst_0 : FVec F S_ .f32 := constant S_ .f32 0x7F800000#32
  let main_v4 : FVec F S128x1 .f32 := broadcastInDim S128x1 ![] bcast_S_S128x1 main_cst_0
  let main_v5 : IVec S128x1 1 := cmpf .olt main_v3 main_v4
  let main_v6 : FVec F S1 .f32 := Host.absf main_arg3
  let main_cst_1 : FVec F S_ .f32 := constant S_ .f32 0x7F800000#32
  let main_v7 : FVec F S1 .f32 := broadcastInDim S1 ![] bcast_S_S1 main_cst_1
  let main_v8 : IVec S1 1 := cmpf .olt main_v6 main_v7
  let main_c : IVec S_ 32 := constantI S_ 32 0#32
  let main_v9 : IVec S32768 32 := broadcastInDim S32768 ![] bcast_S_S32768 main_c
  let main_v10 : IVec S32768 1 := cmpi .sge main_arg1 main_v9
  let main_c_2 : IVec S_ 32 := constantI S_ 32 16#32
  let main_v11 : IVec S32768 32 := broadcastInDim S32768 ![] bcast_S_S32768 main_c_2
  let main_v12 : IVec S32768 1 := cmpi .slt main_arg1 main_v11
  (main_v2, main_v5, main_v8, main_v10, main_v12)
-- ==== Kernel.lean ====
abbrev S32768x128 : Shape := ⟨2, ![32768, 128]⟩
abbrev S32768 : Shape := ⟨1, ![32768]⟩
abbrev S128x1 : Shape := ⟨2, ![128, 1]⟩
abbrev S1 : Shape := ⟨1, ![1]⟩
abbrev S128x8 : Shape := ⟨2, ![128, 8]⟩
abbrev S8 : Shape := ⟨1, ![8]⟩
abbrev S1x32768 : Shape := ⟨2, ![1, 32768]⟩
abbrev S128x9 : Shape := ⟨2, ![128, 9]⟩
abbrev S9 : Shape := ⟨1, ![9]⟩
abbrev S9x1 : Shape := ⟨2, ![9, 1]⟩
abbrev S32768x8 : Shape := ⟨2, ![32768, 8]⟩
abbrev S1x8192 : Shape := ⟨2, ![1, 8192]⟩
abbrev S8192x128 : Shape := ⟨2, ![8192, 128]⟩
abbrev S8192x8 : Shape := ⟨2, ![8192, 8]⟩
abbrev S8x32768 : Shape := ⟨2, ![8, 32768]⟩
abbrev S16x1 : Shape := ⟨2, ![16, 1]⟩
abbrev S9x8192 : Shape := ⟨2, ![9, 8192]⟩
abbrev S8x8192 : Shape := ⟨2, ![8, 8192]⟩
abbrev S8192 : Shape := ⟨1, ![8192]⟩
abbrev S16x8192 : Shape := ⟨2, ![16, 8192]⟩
abbrev S16 : Shape := ⟨1, ![16]⟩

abbrev nBuf : Space → Nat
  | .hbm => 11
  | .vmem => 11
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S128x1, .f32⟩
  | .hbm, ⟨3, _⟩ => ⟨S1, .f32⟩
  | .hbm, ⟨4, _⟩ => ⟨S128x8, .f32⟩
  | .hbm, ⟨5, _⟩ => ⟨S8, .f32⟩
  | .hbm, ⟨6, _⟩ => ⟨S1x32768, .i32⟩
  | .hbm, ⟨7, _⟩ => ⟨S128x9, .f32⟩
  | .hbm, ⟨8, _⟩ => ⟨S9, .f32⟩
  | .hbm, ⟨9, _⟩ => ⟨S9x1, .f32⟩
  | .hbm, ⟨10, _⟩ => ⟨S32768x8, .f32⟩
  | .local _ .vmem, ⟨0, _⟩ => ⟨S1x8192, .i32⟩
  | .local _ .vmem, ⟨1, _⟩ => ⟨S1x8192, .i32⟩
  | .local _ .vmem, ⟨2, _⟩ => ⟨S8192x128, .f32⟩
  | .local _ .vmem, ⟨3, _⟩ => ⟨S8192x128, .f32⟩
  | .local _ .vmem, ⟨4, _⟩ => ⟨S128x9, .f32⟩
  | .local _ .vmem, ⟨5, _⟩ => ⟨S9x1, .f32⟩
  | .local _ .vmem, ⟨6, _⟩ => ⟨S8192x8, .f32⟩
  | .local _ .vmem, ⟨7, _⟩ => ⟨S8192x8, .f32⟩
  | .local _ .vmem, ⟨8, _⟩ => ⟨S8x32768, .f32⟩
  | .local _ .vmem, ⟨9, _⟩ => ⟨S16x1, .f32⟩
  | .local _ .vmem, ⟨10, _⟩ => ⟨S16x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let c0_12 : Index := 0#32
  let arg1 : BitVec 32 := BitVec.ofNat 32 (i 1).val
  let c8192_i32 : BitVec 32 := 8192#32
  let v33 : BitVec 32 := Scalar.muli arg1 c8192_i32
  let v34 : Index := Scalar.indexCast v33
  ![0, v34.toNat]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off2 (i : grid0.Coords) : Fin 2 → Nat :=
  let c0_11 : Index := 0#32
  let arg1 : BitVec 32 := BitVec.ofNat 32 (i 1).val
  let c8192_i32 : BitVec 32 := 8192#32
  let v27 : BitVec 32 := Scalar.muli arg1 c8192_i32
  let v28 : Index := Scalar.indexCast v27
  ![0, v28.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S1x8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S9x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8192x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x128 : Shape := ⟨2, ![32768, 128]⟩
abbrev S32768 : Shape := ⟨1, ![32768]⟩
abbrev S128x1 : Shape := ⟨2, ![128, 1]⟩
abbrev S1 : Shape := ⟨1, ![1]⟩
abbrev S128x8 : Shape := ⟨2, ![128, 8]⟩
abbrev S8 : Shape := ⟨1, ![8]⟩
abbrev S32768x1 : Shape := ⟨2, ![32768, 1]⟩
abbrev S1x1 : Shape := ⟨2, ![1, 1]⟩
abbrev S32768x8 : Shape := ⟨2, ![32768, 8]⟩
abbrev S1x8 : Shape := ⟨2, ![1, 8]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S128x1, .f32⟩
  | .hbm, ⟨3, _⟩ => ⟨S1, .f32⟩
  | .hbm, ⟨4, _⟩ => ⟨S128x8, .f32⟩
  | .hbm, ⟨5, _⟩ => ⟨S8, .f32⟩
  | .hbm, ⟨6, _⟩ => ⟨S32768x1, .f32⟩
  | .hbm, ⟨7, _⟩ => ⟨S1x1, .f32⟩
  | .hbm, ⟨8, _⟩ => ⟨S32768x1, .f32⟩
  | .hbm, ⟨9, _⟩ => ⟨S32768x1, .f32⟩
  | .hbm, ⟨10, _⟩ => ⟨S32768x8, .f32⟩
  | .hbm, ⟨11, _⟩ => ⟨S1x8, .f32⟩
  | .hbm, ⟨12, _⟩ => ⟨S32768x8, .f32⟩
  | .hbm, ⟨13, _⟩ => ⟨S32768x8, .f32⟩
  | .hbm, ⟨14, _⟩ => ⟨S32768, .f32⟩
  | .hbm, ⟨15, _⟩ => ⟨S1x32768, .i32⟩
  | .hbm, ⟨16, _⟩ => ⟨S16, .i32⟩
  | .hbm, ⟨17, _⟩ => ⟨S16x1, .i32⟩
  | .hbm, ⟨18, _⟩ => ⟨S16x32768, .i32⟩
  | .hbm, ⟨19, _⟩ => ⟨S16x32768, .i32⟩
  | .hbm, ⟨20, _⟩ => ⟨S16x32768, .i1⟩
  | .hbm, ⟨21, _⟩ => ⟨S1x32768, .f32⟩
  | .hbm, ⟨22, _⟩ => ⟨S_, .f32⟩
  | .hbm, ⟨23, _⟩ => ⟨S_, .f32⟩
  | .hbm, ⟨24, _⟩ => ⟨S16x32768, .f32⟩
  | .hbm, ⟨25, _⟩ => ⟨S16x32768, .f32⟩
  | .hbm, ⟨26, _⟩ => ⟨S16x32768, .f32⟩
  | .hbm, ⟨27, _⟩ => ⟨S_, .f32⟩
  | .hbm, ⟨28, _⟩ => ⟨S16, .f32⟩
  | .hbm, ⟨29, _⟩ => ⟨S_, .i32⟩
  | .hbm, ⟨30, _⟩ => ⟨S32768, .i32⟩
  | .hbm, ⟨31, _⟩ => ⟨S32768, .i1⟩
  | .hbm, ⟨32, _⟩ => ⟨S_, .i32⟩
  | .hbm, ⟨33, _⟩ => ⟨S32768, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S32768, .f32⟩
  | .hbm, ⟨38, _⟩ => ⟨S32768, .f32⟩
  | .hbm, ⟨39, _⟩ => ⟨S32768, .f32⟩
  | .hbm, ⟨40, _⟩ => ⟨S_, .f32⟩
  | .hbm, ⟨41, _⟩ => ⟨S16, .f32⟩
  | .hbm, ⟨42, _⟩ => ⟨S32768x1, .i32⟩
  | .hbm, ⟨43, _⟩ => ⟨S16, .f32⟩
  | .hbm, ⟨44, _⟩ => ⟨S16, .f32⟩
  | .hbm, ⟨45, _⟩ => ⟨S_, .i32⟩
  | .hbm, ⟨46, _⟩ => ⟨S32768, .i32⟩
  | .hbm, ⟨47, _⟩ => ⟨S32768, .i1⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i32⟩
  | .hbm, ⟨52, _⟩ => ⟨S32768x1, .i32⟩
  | .hbm, ⟨53, _⟩ => ⟨S32768, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S32768x1, .f32⟩
  | .hbm, ⟨62, _⟩ => ⟨S32768x8, .f32⟩
  | .hbm, ⟨63, _⟩ => ⟨S32768x8, .f32⟩
  | .hbm, ⟨64, _⟩ => ⟨S32768x8, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S32768x1, .f32⟩
  | .hbm, ⟨69, _⟩ => ⟨S32768x8, .f32⟩
  | .hbm, ⟨70, _⟩ => ⟨S32768x8, .f32⟩
  | .hbm, ⟨71, _⟩ => ⟨S32768x8, .f32⟩
  | .hbm, ⟨72, _⟩ => ⟨S32768x8, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call1_cst : Ref sig .tc := ⟨.hbm, 56, rfl⟩
abbrev main_call1_v0 : Ref sig .tc := ⟨.hbm, 57, rfl⟩
abbrev main_call1_cst_0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_cst_1 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩

abbrev nD : Nat := 1
abbrev τ : Topo := Topo.v7x

variable {F : FTy → Type} [FloatOps F]
-- ==== Proof.KernelFrame.lean ====
/- The kernel as printed runs to the end and leaves its arguments as they were. Nothing is said here of what it computes:
   the body's scratch and its output buffer are handed over, and taken back, at any contents. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body resets the running maximum and sum. -/
abbrev resets (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

abbrev ms0 (t : Fin cfg0.N) : Memref sig .tc .vmem S1x8192 .i32 := win0_0.stage (cfg0.slots t 0)
abbrev ms1 (t : Fin cfg0.N) : Memref sig .tc .vmem S8192x128 .f32 := win0_1.stage (cfg0.slots t 1)
abbrev ms2 (t : Fin cfg0.N) : Memref sig .tc .vmem S128x9 .f32 := win0_2.stage (cfg0.slots t 2)
abbrev ms3 (t : Fin cfg0.N) : Memref sig .tc .vmem S9x1 .f32 := win0_3.stage (cfg0.slots t 3)
abbrev ms4 (t : Fin cfg0.N) : Memref sig .tc .vmem S8192x8 .f32 := win0_4.stage (cfg0.slots t 4)

set_option maxHeartbeats 9600000 in
/-- One run of the body, whatever its branches: the inputs are kept, the output buffer and the scratch end at something. -/
theorem any_run (c : Dev nD) (i : grid0.Coords) (arg2 : Memref sig .tc .vmem S1x8192 .i32) (harg2 : arg2.IsWhole) (arg3 : Memref sig .tc .vmem S8192x128 .f32) (harg3 : arg3.IsWhole) (arg4 : Memref sig .tc .vmem S128x9 .f32) (harg4 : arg4.IsWhole) (arg5 : Memref sig .tc .vmem S9x1 .f32) (harg5 : arg5.IsWhole) (arg6 : Memref sig .tc .vmem S8192x8 .f32) (harg6 : arg6.IsWhole) (arg7 : Memref sig .tc .vmem S8x32768 .f32) (harg7 : arg7.IsWhole) (arg8 : Memref sig .tc .vmem S16x1 .f32) (harg8 : arg8.IsWhole) (arg9 : Memref sig .tc .vmem S16x1 .f32) (harg9 : arg9.IsWhole)
    (bi : Vec F S1x8192 .i32) (x : Vec F S8192x128 .f32) (w : Vec F S128x9 .f32) (b : Vec F S9x1 .f32) (y : Vec F S8192x8 .f32)
    (T : Vec F S8x32768 .f32) (mx sm : Vec F S16x1 .f32) (E : Set ℕ) (K : PUnit → sProp 𝕄) :
    iprop(owns (c : Thread nD τ) arg2 fullShare bi ∗ owns (c : Thread nD τ) arg3 fullShare x ∗ owns (c : Thread nD τ) arg4 fullShare w ∗ owns (c : Thread nD τ) arg5 fullShare b ∗ owns (c : Thread nD τ) arg6 fullShare y ∗ owns (c : Thread nD τ) arg7 fullShare T ∗ owns (c : Thread nD τ) arg8 fullShare mx ∗ owns (c : Thread nD τ) arg9 fullShare sm
        ∗ (iprop(owns (c : Thread nD τ) arg2 fullShare bi ∗ owns (c : Thread nD τ) arg3 fullShare x ∗ owns (c : Thread nD τ) arg4 fullShare w ∗ owns (c : Thread nD τ) arg5 fullShare b
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
  by_cases hr : resets i <;> by_cases hg : k0_cond2 i = 1#1 <;> by_cases he : k0_cond3 i = 1#1
  all_goals
    sl_exec (disch := first | sl_exact hr | sl_exact hg | sl_exact he)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexists _; isplitr; swap; · iexact H4
      ipureintro; rfl
    isplitl [HS0]
    · iexists _; iexists _; isplitr; swap; · iexact HS0
      ipureintro; rfl
    isplitl [HS1]
    · iexists _; iexists _; isplitr; swap; · iexact HS1
      ipureintro; rfl
    iexists _; iexists _; isplitr; swap; · iexact HS2
    ipureintro; rfl

/-- The one output, of which nothing is named. -/
def forgets : Fin 5 → Bool := fun w => w.val == 4

/-- The proof data: each input's buffer is left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is entered with. -/
def entry (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare d))

/-- What it is left with. -/
def exit (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (∃ d, owns (c : Thread nD τ) (ms4 t) fullShare d))

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]

/-- The scratch buffers, each at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d)) ∗ (∃ r, prngReg c r)) := by
  unfold Pipeline.ΦA; rw [scopedRest0_eq]; simp only [owns_whole]; try rfl

theorem sound_body (c : Dev nD) (t : Fin cfg0.N) :
    entry m c t ⊢ wp frame (wpE (defs₀ (F := F)) Variants.none c none) Set.univ (bodyAt0 t) (fun _ => exit m c t) := by
  unfold entry exit bodyAt0
  rw [leaves0, leaves1, leaves2, leaves3]
  simp only [before0, before1, before2, before3]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, scratch_eq]
  iintro ⟨⟨⟨⟨%T, HT⟩, ⟨%mx, HM⟩, ⟨%sm, HS⟩⟩, Hg⟩, Ho, ⟨%d0, H0⟩, ⟨%d1, H1⟩, ⟨%d2, H2⟩, ⟨%d3, H3⟩, ⟨%d4, H4⟩⟩
  iapply (any_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _)
    (iblk m c 0 t) (iblk m c 1 t) (iblk m c 2 t) (iblk m c 3 t) d4 T mx sm)
  isplitl [H0]; · iexact H0
  isplitl [H1]; · iexact H1
  isplitl [H2]; · iexact H2
  isplitl [H3]; · iexact H3
  isplitl [H4]; · iexact H4
  isplitl [HT]; · iexact HT
  isplitl [HM]; · iexact HM
  isplitl [HS]; · iexact HS
  iintro ⟨H0, H1, H2, H3, H4, HT, HM, HS⟩
  isplitl [HT HM HS Hg]
  · isplitl [HT HM HS]
    · isplitl [HT]; · iexact HT
      isplitl [HM]; · iexact HM
      iexact HS
    iexact Hg
  isplitl [Ho]; · iexact Ho
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

-- the launch theorem's implicit arguments are found by unifying its conclusion with this one, which takes unfolding
-- plain definitions in a metavariable's type
set_option backward.isDefEq.respectTransparency.types false in
/-- Every fair execution terminates with the input arrays as they were and every counter at zero. -/
theorem run_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨
      (((congrFun (((dats m 0 c).toRForget forgets).ArrAt_in 1 rfl cfg0.N) _).mp ((h.1 c).1 1)).trans (A_eq m c 1)).trans
        (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩)
    (run_quiescent m ρ)

end Cert.Kernel.Hand

end
-- ==== Proof.Points.lean ====
/- Which of the kernel body's three branches a grid point takes, and the names of the buffers its body works on.

   The grid is 2 × 4. Points 0–3 make up the first pass over the rows: point 0 also resets the running maximum and the
   running sum. Points 4–7 make up the second pass, which writes the result. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

/-! ## The branch conditions -/

/-- The body resets the running maximum and sum. -/
abbrev resets (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The body does the first pass's work. -/
abbrev gathers (i : grid0.Coords) : Prop := k0_cond2 i = 1#1
/-- The body does the second pass's work. -/
abbrev emits (i : grid0.Coords) : Prop := k0_cond3 i = 1#1

/-- The pass a point belongs to. -/
theorem coord_pass (t : Fin grid0.N) : (grid0.coords t 0).val = t.val / 4 := by
  have ht : t.val < 8 := Nat.lt_of_lt_of_eq t.isLt N_0
  have h : (grid0.coords t 0).val = t.val / 4 % 2 := Pipeline.Grid.coords_val t 0 (by decide) rfl
  omega

/-- The block of rows a point works on. -/
theorem coord_block (t : Fin grid0.N) : (grid0.coords t 1).val = t.val % 4 := by
  have h : (grid0.coords t 1).val = t.val / 1 % 4 := Pipeline.Grid.coords_val t 1 (by decide) rfl
  omega

theorem resets_iff (t : Fin cfg0.N) : resets (grid0.coords t) ↔ t.val = 0 := by
  have ht : t.val < 8 := Nat.lt_of_lt_of_eq t.isLt N_0
  have e0 := coord_pass t
  have e1 := coord_block t
  have key : resets (grid0.coords t) ↔ t.val % 8 = 0 := by
    simp only [resets, e0, e1]
    word_cmp
  rw [key]; omega

theorem gathers_iff (t : Fin cfg0.N) : gathers (grid0.coords t) ↔ t.val < 4 := by
  have ht : t.val < 8 := Nat.lt_of_lt_of_eq t.isLt N_0
  have e0 := coord_pass t
  simp only [gathers, k0_cond2, e0]
  word_cmp

theorem emits_iff (t : Fin cfg0.N) : emits (grid0.coords t) ↔ 4 ≤ t.val := by
  have ht : t.val < 8 := Nat.lt_of_lt_of_eq t.isLt N_0
  have e0 := coord_pass t
  simp only [emits, k0_cond3, e0]
  word_cmp

/-- The columns of the scratch table a first-pass point fills start at 8192 times its block. -/
theorem off_fill (t : Fin grid0.N) : k0_off1 (grid0.coords t) = ![0, t.val % 4 * 8192] := by
  have ht : t.val < 8 := Nat.lt_of_lt_of_eq t.isLt N_0
  have e1 := coord_block t
  funext a
  match a with
  | 0 => rfl
  | 1 =>
    show (Scalar.muli (BitVec.ofNat 32 (grid0.coords t 1).val) 8192#32).toNat = t.val % 4 * 8192
    rw [e1]
    have : t.val % 4 < 4 := Nat.mod_lt _ (by decide)
    interval_cases t.val % 4 <;> rfl

/-- The columns of the scratch table a second-pass point reads start at 8192 times its block. -/
theorem off_read (t : Fin grid0.N) : k0_off2 (grid0.coords t) = ![0, t.val % 4 * 8192] := off_fill t

/-! ## The buffers -/

abbrev ms0 (t : Fin cfg0.N) : Memref sig .tc .vmem S1x8192 .i32 := win0_0.stage (cfg0.slots t 0)
abbrev ms1 (t : Fin cfg0.N) : Memref sig .tc .vmem S8192x128 .f32 := win0_1.stage (cfg0.slots t 1)
abbrev ms2 (t : Fin cfg0.N) : Memref sig .tc .vmem S128x9 .f32 := win0_2.stage (cfg0.slots t 2)
abbrev ms3 (t : Fin cfg0.N) : Memref sig .tc .vmem S9x1 .f32 := win0_3.stage (cfg0.slots t 3)
abbrev ms4 (t : Fin cfg0.N) : Memref sig .tc .vmem S8192x8 .f32 := win0_4.stage (cfg0.slots t 4)
/-- The table of row scores the first pass fills. -/
abbrev table : Memref sig .tc .vmem S8x32768 .f32 := Memref.whole cc0_scratch0
/-- The running maximum of each group. -/
abbrev runMax : Memref sig .tc .vmem S16x1 .f32 := Memref.whole cc0_scratch1
/-- The running sum of each group. -/
abbrev runSum : Memref sig .tc .vmem S16x1 .f32 := Memref.whole cc0_scratch2

end Cert.KernelIdeal.Hand

end
-- ==== Proof.Body.lean ====
/- What one run of the kernel body does to its buffers, in each of the three cases a grid point can be in.

   Each statement is a triple: from the input blocks and the scratch contents it names, the body runs to the end and leaves
   the contents it names. `VecWindow.put T o s v` is the table `T` with the window `v` (of sizes `s`) put at offsets `o`;
   `VecWindow.window T o s _` is the window of `T` there. -/
module

public import proofs.«01_k».proof.Proof.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- A load of a whole buffer reads its contents. -/
theorem load_all {s : Shape} {e : EltTy} (M : Memref sig .tc .vmem s e) (h : M.IsWhole) (off : Fin s.rank → ℕ)
    (inb : ∀ a, off a + s.size a ≤ s.size a) (v : Vec F s e) :
    M.view.readAt (Elt F) (Rect.unit off s.size inb).toLoadRect (h.unread v) = v := by
  rw [View.readAt_full, h.read_unread]

/-- The running maximum after a block: the old one and the block's groupwise maximum. -/
def nextMax (bi : Vec F S1x8192 .i32) (x : Vec F S8192x128 .f32) (w : Vec F S128x9 .f32) (b : Vec F S9x1 .f32)
    (mx : Vec F S16x1 .f32) : Vec F S16x1 .f32 :=
  k0_pay4 (k0_pay10 x w b bi mx)

/-- The running sum after a block: the old one rescaled to the new maximum, plus the block's groupwise sum. -/
def nextSum (bi : Vec F S1x8192 .i32) (x : Vec F S8192x128 .f32) (w : Vec F S128x9 .f32) (b : Vec F S9x1 .f32)
    (mx sm : Vec F S16x1 .f32) : Vec F S16x1 .f32 :=
  k0_pay3 (k0_pay9 x w b bi) mx (k0_pay10 x w b bi mx) (k0_pay11 x w b bi mx) sm

set_option maxHeartbeats 9600000 in
/-- The first point: the running maximum and sum are reset (to `k0_pay1`, `k0_pay2`) and then take the first block in, and
    the block's row scores go into its columns of the table. -/
theorem reset_run (c : Dev nD) (i : grid0.Coords) (arg2 : Memref sig .tc .vmem S1x8192 .i32) (harg2 : arg2.IsWhole) (arg3 : Memref sig .tc .vmem S8192x128 .f32) (harg3 : arg3.IsWhole) (arg4 : Memref sig .tc .vmem S128x9 .f32) (harg4 : arg4.IsWhole) (arg5 : Memref sig .tc .vmem S9x1 .f32) (harg5 : arg5.IsWhole) (arg6 : Memref sig .tc .vmem S8192x8 .f32) (harg6 : arg6.IsWhole) (arg7 : Memref sig .tc .vmem S8x32768 .f32) (harg7 : arg7.IsWhole) (arg8 : Memref sig .tc .vmem S16x1 .f32) (harg8 : arg8.IsWhole) (arg9 : Memref sig .tc .vmem S16x1 .f32) (harg9 : arg9.IsWhole)
    (hr : resets i) (hg : gathers i) (he : ¬emits i)
    (bi : Vec F S1x8192 .i32) (x : Vec F S8192x128 .f32) (w : Vec F S128x9 .f32) (b : Vec F S9x1 .f32) (y : Vec F S8192x8 .f32)
    (T : Vec F S8x32768 .f32) (mx sm : Vec F S16x1 .f32) (E : Set ℕ) (K : PUnit → sProp 𝕄) :
    iprop(owns (c : Thread nD τ) arg2 fullShare bi ∗ owns (c : Thread nD τ) arg3 fullShare x ∗ owns (c : Thread nD τ) arg4 fullShare w ∗ owns (c : Thread nD τ) arg5 fullShare b ∗ owns (c : Thread nD τ) arg6 fullShare y ∗ owns (c : Thread nD τ) arg7 fullShare T ∗ owns (c : Thread nD τ) arg8 fullShare mx ∗ owns (c : Thread nD τ) arg9 fullShare sm
        ∗ (iprop(owns (c : Thread nD τ) arg2 fullShare bi ∗ owns (c : Thread nD τ) arg3 fullShare x ∗ owns (c : Thread nD τ) arg4 fullShare w ∗ owns (c : Thread nD τ) arg5 fullShare b ∗ owns (c : Thread nD τ) arg6 fullShare y
            ∗ owns (c : Thread nD τ) arg7 fullShare (VecWindow.put T (k0_off1 i) S8x8192.size (k0_pay8 x w b))
            ∗ owns (c : Thread nD τ) arg8 fullShare (nextMax bi x w b k0_pay1)
            ∗ owns (c : Thread nD τ) arg9 fullShare (nextSum bi x w b k0_pay1 k0_pay2)) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
  sl_exec (disch := first | sl_exact hr | sl_exact hg | sl_exact he)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [View.read_writes_cons_put _ _ _ _ _ rfl, View.writes_nil, harg7.read_unread,
      load_all arg3 harg3, load_all arg4 harg4, load_all arg5 harg5]
  isplitl [HS1]
  · iexists _; isplitr; swap; · iexact HS1
    ipureintro
    refine (View.read_writes_full _ _ _ _ _).trans ?_
    unfold reset_run.sl.r_1 reset_run.sl.v50 reset_run.sl.HS1_1 nextMax
    rw [load_all arg2 harg2, load_all arg3 harg3, load_all arg4 harg4, load_all arg5 harg5, View.readCov_full]
  iexists _; isplitr; swap; · iexact HS2
  ipureintro
  refine (View.read_writes_full _ _ _ _ _).trans ?_
  unfold reset_run.sl.r reset_run.sl.r_1 reset_run.sl.r_2 reset_run.sl.v50 reset_run.sl.v57 reset_run.sl.HS1_1 reset_run.sl.HS2_1 nextSum
  rw [load_all arg2 harg2, load_all arg3 harg3, load_all arg4 harg4, load_all arg5 harg5, View.readCov_full, View.readCov_full]

set_option maxHeartbeats 9600000 in
/-- A first-pass point that is not the first: the block's row scores go into its columns of the table, and the running
    maximum and sum take the block in. -/
theorem gather_run (c : Dev nD) (i : grid0.Coords) (arg2 : Memref sig .tc .vmem S1x8192 .i32) (harg2 : arg2.IsWhole) (arg3 : Memref sig .tc .vmem S8192x128 .f32) (harg3 : arg3.IsWhole) (arg4 : Memref sig .tc .vmem S128x9 .f32) (harg4 : arg4.IsWhole) (arg5 : Memref sig .tc .vmem S9x1 .f32) (harg5 : arg5.IsWhole) (arg6 : Memref sig .tc .vmem S8192x8 .f32) (harg6 : arg6.IsWhole) (arg7 : Memref sig .tc .vmem S8x32768 .f32) (harg7 : arg7.IsWhole) (arg8 : Memref sig .tc .vmem S16x1 .f32) (harg8 : arg8.IsWhole) (arg9 : Memref sig .tc .vmem S16x1 .f32) (harg9 : arg9.IsWhole)
    (hr : ¬resets i) (hg : gathers i) (he : ¬emits i)
    (bi : Vec F S1x8192 .i32) (x : Vec F S8192x128 .f32) (w : Vec F S128x9 .f32) (b : Vec F S9x1 .f32) (y : Vec F S8192x8 .f32)
    (T : Vec F S8x32768 .f32) (mx sm : Vec F S16x1 .f32) (E : Set ℕ) (K : PUnit → sProp 𝕄) :
    iprop(owns (c : Thread nD τ) arg2 fullShare bi ∗ owns (c : Thread nD τ) arg3 fullShare x ∗ owns (c : Thread nD τ) arg4 fullShare w ∗ owns (c : Thread nD τ) arg5 fullShare b ∗ owns (c : Thread nD τ) arg6 fullShare y ∗ owns (c : Thread nD τ) arg7 fullShare T ∗ owns (c : Thread nD τ) arg8 fullShare mx ∗ owns (c : Thread nD τ) arg9 fullShare sm
        ∗ (iprop(owns (c : Thread nD τ) arg2 fullShare bi ∗ owns (c : Thread nD τ) arg3 fullShare x ∗ owns (c : Thread nD τ) arg4 fullShare w ∗ owns (c : Thread nD τ) arg5 fullShare b ∗ owns (c : Thread nD τ) arg6 fullShare y
            ∗ owns (c : Thread nD τ) arg7 fullShare (VecWindow.put T (k0_off1 i) S8x8192.size (k0_pay8 x w b))
            ∗ owns (c : Thread nD τ) arg8 fullShare (nextMax bi x w b mx)
            ∗ owns (c : Thread nD τ) arg9 fullShare (nextSum bi x w b mx sm)) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
  sl_exec (disch := first | sl_exact hr | sl_exact hg | sl_exact he)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [View.read_writes_cons_put _ _ _ _ _ rfl, View.writes_nil, harg7.read_unread,
      load_all arg3 harg3, load_all arg4 harg4, load_all arg5 harg5]
  isplitl [HS1]
  · iexists _; isplitr; swap; · iexact HS1
    ipureintro
    refine (View.read_writes_full _ _ _ _ _).trans ?_
    unfold gather_run.sl.r_2 nextMax
    rw [load_all arg2 harg2, load_all arg3 harg3, load_all arg4 harg4, load_all arg5 harg5, load_all arg8 harg8]
  iexists _; isplitr; swap; · iexact HS2
  ipureintro
  refine (View.read_writes_full _ _ _ _ _).trans ?_
  unfold gather_run.sl.r gather_run.sl.r_1 gather_run.sl.r_2 gather_run.sl.r_3 nextSum
  rw [load_all arg2 harg2, load_all arg3 harg3, load_all arg4 harg4, load_all arg5 harg5, load_all arg8 harg8, load_all arg9 harg9]

set_option maxHeartbeats 9600000 in
/-- A second-pass point: the output block is made of the final maximum and sum, the block's group numbers and the table's
    columns for the block. The scratch is only read. -/
theorem emit_run (c : Dev nD) (i : grid0.Coords) (arg2 : Memref sig .tc .vmem S1x8192 .i32) (harg2 : arg2.IsWhole) (arg3 : Memref sig .tc .vmem S8192x128 .f32) (harg3 : arg3.IsWhole) (arg4 : Memref sig .tc .vmem S128x9 .f32) (harg4 : arg4.IsWhole) (arg5 : Memref sig .tc .vmem S9x1 .f32) (harg5 : arg5.IsWhole) (arg6 : Memref sig .tc .vmem S8192x8 .f32) (harg6 : arg6.IsWhole) (arg7 : Memref sig .tc .vmem S8x32768 .f32) (harg7 : arg7.IsWhole) (arg8 : Memref sig .tc .vmem S16x1 .f32) (harg8 : arg8.IsWhole) (arg9 : Memref sig .tc .vmem S16x1 .f32) (harg9 : arg9.IsWhole)
    (hr : ¬resets i) (hg : ¬gathers i) (he : emits i)
    (bi : Vec F S1x8192 .i32) (x : Vec F S8192x128 .f32) (w : Vec F S128x9 .f32) (b : Vec F S9x1 .f32) (y : Vec F S8192x8 .f32)
    (T : Vec F S8x32768 .f32) (mx sm : Vec F S16x1 .f32) (E : Set ℕ) (K : PUnit → sProp 𝕄) :
    iprop(owns (c : Thread nD τ) arg2 fullShare bi ∗ owns (c : Thread nD τ) arg3 fullShare x ∗ owns (c : Thread nD τ) arg4 fullShare w ∗ owns (c : Thread nD τ) arg5 fullShare b ∗ owns (c : Thread nD τ) arg6 fullShare y ∗ owns (c : Thread nD τ) arg7 fullShare T ∗ owns (c : Thread nD τ) arg8 fullShare mx ∗ owns (c : Thread nD τ) arg9 fullShare sm
        ∗ (iprop(owns (c : Thread nD τ) arg2 fullShare bi ∗ owns (c : Thread nD τ) arg3 fullShare x ∗ owns (c : Thread nD τ) arg4 fullShare w ∗ owns (c : Thread nD τ) arg5 fullShare b ∗ owns (c : Thread nD τ) arg6 fullShare (k0_pay5 mx sm bi (VecWindow.window T (k0_off2 i) S8x8192.size (k0_off2_inb i he)))
            ∗ owns (c : Thread nD τ) arg7 fullShare T
            ∗ owns (c : Thread nD τ) arg8 fullShare mx
            ∗ owns (c : Thread nD τ) arg9 fullShare sm) -∗ K ⟨⟩))
      ⊢ wp frame (wpE (defs₀ (F := F)) Variants.none c none) E (cc0__body i arg2 harg2 arg3 harg3 arg4 harg4 arg5 harg5 arg6 harg6 arg7 harg7 arg8 harg8 arg9 harg9) K := by
  simp only [cc0__body_eq_skeleton]; unfold cc0__body_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
  sl_exec (disch := first | sl_exact hr | sl_exact hg | sl_exact he)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    rw [load_all arg2 harg2, load_all arg8 harg8, load_all arg9 harg9, View.readAt_unit _ _ _ rfl (k0_off2_inb i he), harg7.read_unread]
  isplitl [HS0]
  · iexists _; isplitr; · ipureintro; exact harg7.read_unread _
    iexact HS0
  isplitl [HS1]
  · iexists _; isplitr; · ipureintro; exact harg8.read_unread _
    iexact HS1
  iexists _; isplitr; · ipureintro; exact harg9.read_unread _
  iexact HS2

end Cert.KernelIdeal.Hand

end
-- ==== Proof.Invariant.lean ====
/- What the scratch holds between grid points, and the pipeline's proof data.

   The running maximum and sum after `n` blocks are `state n`. The table's columns of block `k` hold `scores k` once the
   first pass has been through block `k`. A second-pass point leaves `emitted` in the output's buffer. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point numbered `n` (modulo 8). -/
def pt (n : ℕ) : Fin cfg0.N := ⟨n % 8, by rw [show cfg0.N = 8 from N_0]; omega⟩

theorem pt_val (t : Fin cfg0.N) : pt t.val = t :=
  Fin.ext (Nat.mod_eq_of_lt (lt_of_lt_of_eq t.isLt N_0))

/-- The running maximum and sum after the first `n` blocks. -/
def state (c : Dev nD) : ℕ → Vec F S16x1 .f32 × Vec F S16x1 .f32
  | 0 => (k0_pay1, k0_pay2)
  | n + 1 =>
    (nextMax (iblk m c 0 (pt n)) (iblk m c 1 (pt n)) (iblk m c 2 (pt n)) (iblk m c 3 (pt n)) (state c n).1,
     nextSum (iblk m c 0 (pt n)) (iblk m c 1 (pt n)) (iblk m c 2 (pt n)) (iblk m c 3 (pt n)) (state c n).1 (state c n).2)

/-- The row scores of block `k`. -/
def scores (c : Dev nD) (k : ℕ) : Vec F S8x8192 .f32 := k0_pay8 (iblk m c 1 (pt k)) (iblk m c 2 (pt k)) (iblk m c 3 (pt k))

/-- The output block a second-pass point makes. -/
def emitted (c : Dev nD) (t : Fin cfg0.N) : Vec F S8192x8 .f32 :=
  k0_pay5 (state m c 4).1 (state m c 4).2 (iblk m c 0 t) (scores m c (t.val % 4))

/-- The table's columns of each of the first `n` blocks hold the block's scores. -/
def Filled (c : Dev nD) (n : ℕ) (T : Vec F S8x32768 .f32) : Prop :=
  ∀ k < n, ∀ inb : ∀ a, (![0, k * 8192] : Fin 2 → ℕ) a + S8x8192.size a ≤ S8x32768.size a,
    VecWindow.window T ![0, k * 8192] S8x8192.size inb = scores m c k

theorem Filled.zero (c : Dev nD) (T : Vec F S8x32768 .f32) : Filled m c 0 T := fun k hk => absurd hk (Nat.not_lt_zero k)

/-- Filling block `n`'s columns keeps the earlier blocks'. -/
theorem Filled.step {c : Dev nD} {n : ℕ} {T : Vec F S8x32768 .f32} (h : Filled m c n T) :
    Filled m c (n + 1) (VecWindow.put T ![0, n * 8192] S8x8192.size (scores m c n)) := by
  intro k hk inb
  rcases Nat.lt_succ_iff_lt_or_eq.mp hk with hlt | rfl
  · rw [VecWindow.window_put_of_disjoint (s := S8x32768) T ![0, n * 8192] S8x8192.size ![0, k * 8192] S8x8192.size inb (scores m c n) (1 : Fin 2)
      (Or.inl (by show k * 8192 + 8192 ≤ n * 8192; omega))]
    exact h k hlt inb
  · exact VecWindow.window_put_same (s := S8x32768) T ![0, k * 8192] S8x8192.size inb (scores m c k)

/-- The scratch before the point numbered `n`: anything before the first; afterwards the table filled, and the running
    maximum and sum taken, up to the blocks the first pass has done. -/
def Phi (c : Dev nD) : (n : ℕ) → sProp 𝕄
  | 0 => Pipeline.ΦA spec0 c
  | n + 1 => iprop(iprop((∃ T, ⌜Filled m c (min (n + 1) 4) T⌝ ∗ owns (c : Thread nD τ) table fullShare T)
      ∗ owns (c : Thread nD τ) runMax fullShare (state m c (min (n + 1) 4)).1
      ∗ owns (c : Thread nD τ) runSum fullShare (state m c (min (n + 1) 4)).2) ∗ (∃ r, prngReg c r))

theorem Phi_pos (c : Dev nD) {n : ℕ} (h : n ≠ 0) :
    Phi m c n = iprop(iprop((∃ T, ⌜Filled m c (min n 4) T⌝ ∗ owns (c : Thread nD τ) table fullShare T)
      ∗ owns (c : Thread nD τ) runMax fullShare (state m c (min n 4)).1
      ∗ owns (c : Thread nD τ) runSum fullShare (state m c (min n 4)).2) ∗ (∃ r, prngReg c r)) := by
  cases n with
  | zero => exact absurd rfl h
  | succ n => rfl

/-- Before the first point the scratch buffers are owned at some contents. -/
theorem start_eq (c : Dev nD) :
    (Pipeline.ΦA spec0 c : sProp 𝕄)
      = iprop(iprop((∃ d, owns (c : Thread nD τ) table fullShare d) ∗ (∃ d, owns (c : Thread nD τ) runMax fullShare d) ∗ (∃ d, owns (c : Thread nD τ) runSum fullShare d)) ∗ (∃ r, prngReg c r)) := by
  unfold Pipeline.ΦA; rw [scopedRest0_eq]; simp only [table, runMax, runSum, owns_whole]; try rfl

/-- The proof data: each input's buffer is left at its block, the output's at what the second pass makes of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => emitted m c t
  Φ t := Phi m c t.val
  q _ := fullShare
  owed _ := 0

theorem A_eq (c : Dev nD) (w : Fin cfg0.W) : (dats m 0 c).A w = V m c (Pipeline.arrRef spec0 w) := by
  dsimp only [dats]
theorem Phi_at (c : Dev nD) (t : Fin (cfg0.N + 1)) : (dats m 0 c).Φ t = Phi m c t.val := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = emitted m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## When the output's buffer is written, and when it is written back: in the second pass -/

theorem flush_out (t : Fin cfg0.N) : (cfg0.win 4).flush t = true ↔ 4 ≤ t.val :=
  (by decide : ∀ t : Fin grid0.N, win0_4.flush t = true ↔ 4 ≤ t.val) t

theorem idle_out_first (t : Fin cfg0.N) (h : t.val < 4) : cfg0.idle 4 (grid0.coords t) = true := by
  have : ¬emits (grid0.coords t) := fun he => by have := (emits_iff t).mp he; omega
  show (!(k0_cond3 (grid0.coords t) == 1#1)) = true
  simp [show ¬ k0_cond3 (grid0.coords t) = 1#1 from this]

theorem idle_out_second (t : Fin cfg0.N) (h : 4 ≤ t.val) : cfg0.idle 4 (grid0.coords t) = false := by
  have : emits (grid0.coords t) := (emits_iff t).mpr h
  show (!(k0_cond3 (grid0.coords t) == 1#1)) = false
  simp [show k0_cond3 (grid0.coords t) = 1#1 from this]

theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]
theorem leaves4_first (c : Dev nD) (t : Fin cfg0.N) (h : t.val < 4) :
    (dats m 0 c).leavesExact 4 t = iprop(∃ d, owns (c : Thread nD τ) (ms4 t) fullShare ((dats m 0 c).before 4 t d)) :=
  (dats m 0 c).leavesExact_idle 4 t (idle_out_first t h)
    (Bool.eq_false_iff.mpr fun hf => by have := (flush_out t).mp hf; omega)
theorem leaves4_second (c : Dev nD) (t : Fin cfg0.N) (h : 4 ≤ t.val) :
    (dats m 0 c).leavesExact 4 t = owns (c : Thread nD τ) (ms4 t) fullShare (emitted m c t) := by
  unfold Dat.leavesExact; rw [show cfg0.idle 4 (cfg0.grid.coords t) = false from idle_out_second t h, after4]

end Cert.KernelIdeal.Hand

end
-- ==== Proof.Run.lean ====
/- The run: the body meets the pipeline's obligation at every point, so the whole program terminates, leaves its
   arguments as they were, and fills the output array with what the second pass leaves. -/
module

public import proofs.«01_k».proof.Proof.Invariant
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is entered with. -/
def entry (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it is left with. -/
def exit (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem body_reset (c : Dev nD) (t : Fin cfg0.N) (h : t.val = 0) :
    entry m c t ⊢ wp frame (wpE (defs₀ (F := F)) Variants.none c none) Set.univ (bodyAt0 t) (fun _ => exit m c t) := by
  unfold entry exit bodyAt0
  rw [leaves0, leaves1, leaves2, leaves3, leaves4_first m c t (by omega), Phi_at, Phi_at]
  simp only [before0, before1, before2, before3]
  rw [show (dats m 0 c).owesAt () t.succ = (dats m 0 c).owesAt () t.castSucc from rfl]
  rw [show (t.castSucc : Fin (cfg0.N + 1)).val = 0 from h, show (t.succ : Fin (cfg0.N + 1)).val = 0 + 1 by simp [h]]
  rw [show Phi m c 0 = Pipeline.ΦA spec0 c from rfl, start_eq, Phi_pos m c (by omega)]
  iintro ⟨⟨⟨⟨%T, HT⟩, ⟨%mx, HM⟩, ⟨%sm, HS⟩⟩, Hg⟩, Ho, ⟨%d0, H0⟩, ⟨%d1, H1⟩, ⟨%d2, H2⟩, ⟨%d3, H3⟩, ⟨%d4, H4⟩⟩
  iapply (reset_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) table (Memref.isWhole_whole _) runMax (Memref.isWhole_whole _) runSum (Memref.isWhole_whole _) ((resets_iff t).mpr h) ((gathers_iff t).mpr (by omega)) (fun he => by have := (emits_iff t).mp he; omega)
    (iblk m c 0 t) (iblk m c 1 t) (iblk m c 2 t) (iblk m c 3 t) ((dats m 0 c).before 4 t d4) T mx sm)
  isplitl [H0]; · iexact H0
  isplitl [H1]; · iexact H1
  isplitl [H2]; · iexact H2
  isplitl [H3]; · iexact H3
  isplitl [H4]; · iexact H4
  isplitl [HT]; · iexact HT
  isplitl [HM]; · iexact HM
  isplitl [HS]; · iexact HS
  iintro ⟨H0, H1, H2, H3, H4, HT, HM, HS⟩
  have hpt : pt 0 = t := by rw [← h]; exact pt_val t
  isplitl [HT HM HS Hg]
  · isplitl [HT HM HS]
    · isplitl [HT]
      · iexists _; isplitr; swap; · iexact HT
        ipureintro
        rw [off_fill, h]
        have := (Filled.zero m c T).step m
        unfold scores at this
        rw [hpt] at this
        exact this
      isplitl [HM]
      · have e : nextMax (iblk m c 0 t) (iblk m c 1 t) (iblk m c 2 t) (iblk m c 3 t) k0_pay1 = (state m c (min (0 + 1) 4)).1 := by
          show _ = nextMax (iblk m c 0 (pt 0)) (iblk m c 1 (pt 0)) (iblk m c 2 (pt 0)) (iblk m c 3 (pt 0)) k0_pay1
          rw [hpt]
        rw [← e]; iexact HM
      · have e : nextSum (iblk m c 0 t) (iblk m c 1 t) (iblk m c 2 t) (iblk m c 3 t) k0_pay1 k0_pay2 = (state m c (min (0 + 1) 4)).2 := by
          show _ = nextSum (iblk m c 0 (pt 0)) (iblk m c 1 (pt 0)) (iblk m c 2 (pt 0)) (iblk m c 3 (pt 0)) k0_pay1 k0_pay2
          rw [hpt]
        rw [← e]; iexact HS
    iexact Hg
  isplitl [Ho]; · iexact Ho
  isplitl [H0]; · iexact H0
  isplitl [H1]; · iexact H1
  isplitl [H2]; · iexact H2
  isplitl [H3]; · iexact H3
  iexists _; iexact H4

theorem body_gather (c : Dev nD) (t : Fin cfg0.N) (h0 : t.val ≠ 0) (h : t.val < 4) :
    entry m c t ⊢ wp frame (wpE (defs₀ (F := F)) Variants.none c none) Set.univ (bodyAt0 t) (fun _ => exit m c t) := by
  unfold entry exit bodyAt0
  rw [leaves0, leaves1, leaves2, leaves3, leaves4_first m c t (by omega), Phi_at, Phi_at]
  simp only [before0, before1, before2, before3]
  rw [show (dats m 0 c).owesAt () t.succ = (dats m 0 c).owesAt () t.castSucc from rfl]
  rw [show (t.castSucc : Fin (cfg0.N + 1)).val = t.val from rfl, show (t.succ : Fin (cfg0.N + 1)).val = t.val + 1 from rfl]
  rw [Phi_pos m c h0, Phi_pos m c (Nat.succ_ne_zero t.val), Nat.min_eq_left (show t.val ≤ 4 by omega), Nat.min_eq_left (show t.val + 1 ≤ 4 by omega)]
  iintro ⟨⟨⟨⟨%T, %hT, HT⟩, HM, HS⟩, Hg⟩, Ho, ⟨%d0, H0⟩, ⟨%d1, H1⟩, ⟨%d2, H2⟩, ⟨%d3, H3⟩, ⟨%d4, H4⟩⟩
  iapply (gather_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) table (Memref.isWhole_whole _) runMax (Memref.isWhole_whole _) runSum (Memref.isWhole_whole _) (fun hr => h0 ((resets_iff t).mp hr)) ((gathers_iff t).mpr h) (fun he => by have := (emits_iff t).mp he; omega)
    (iblk m c 0 t) (iblk m c 1 t) (iblk m c 2 t) (iblk m c 3 t) ((dats m 0 c).before 4 t d4) T (state m c t.val).1 (state m c t.val).2)
  isplitl [H0]; · iexact H0
  isplitl [H1]; · iexact H1
  isplitl [H2]; · iexact H2
  isplitl [H3]; · iexact H3
  isplitl [H4]; · iexact H4
  isplitl [HT]; · iexact HT
  isplitl [HM]; · iexact HM
  isplitl [HS]; · iexact HS
  iintro ⟨H0, H1, H2, H3, H4, HT, HM, HS⟩
  isplitl [HT HM HS Hg]
  · isplitl [HT HM HS]
    · isplitl [HT]
      · iexists _; isplitr; swap; · iexact HT
        ipureintro
        rw [off_fill, Nat.mod_eq_of_lt h]
        have := hT.step m
        unfold scores at this
        rw [pt_val] at this
        exact this
      isplitl [HM]
      · have e : nextMax (iblk m c 0 t) (iblk m c 1 t) (iblk m c 2 t) (iblk m c 3 t) (state m c t.val).1 = (state m c (t.val + 1)).1 := by
          show _ = nextMax (iblk m c 0 (pt t.val)) (iblk m c 1 (pt t.val)) (iblk m c 2 (pt t.val)) (iblk m c 3 (pt t.val)) (state m c t.val).1
          rw [pt_val]
        rw [← e]; iexact HM
      · have e : nextSum (iblk m c 0 t) (iblk m c 1 t) (iblk m c 2 t) (iblk m c 3 t) (state m c t.val).1 (state m c t.val).2 = (state m c (t.val + 1)).2 := by
          show _ = nextSum (iblk m c 0 (pt t.val)) (iblk m c 1 (pt t.val)) (iblk m c 2 (pt t.val)) (iblk m c 3 (pt t.val)) (state m c t.val).1 (state m c t.val).2
          rw [pt_val]
        rw [← e]; iexact HS
    iexact Hg
  isplitl [Ho]; · iexact Ho
  isplitl [H0]; · iexact H0
  isplitl [H1]; · iexact H1
  isplitl [H2]; · iexact H2
  isplitl [H3]; · iexact H3
  iexists _; iexact H4

theorem body_emit (c : Dev nD) (t : Fin cfg0.N) (h : 4 ≤ t.val) :
    entry m c t ⊢ wp frame (wpE (defs₀ (F := F)) Variants.none c none) Set.univ (bodyAt0 t) (fun _ => exit m c t) := by
  unfold entry exit bodyAt0
  rw [leaves0, leaves1, leaves2, leaves3, leaves4_second m c t h, Phi_at, Phi_at]
  simp only [before0, before1, before2, before3]
  rw [show (dats m 0 c).owesAt () t.succ = (dats m 0 c).owesAt () t.castSucc from rfl]
  rw [show (t.castSucc : Fin (cfg0.N + 1)).val = t.val from rfl, show (t.succ : Fin (cfg0.N + 1)).val = t.val + 1 from rfl]
  rw [Phi_pos m c (show t.val ≠ 0 by omega), Phi_pos m c (Nat.succ_ne_zero t.val), Nat.min_eq_right h, Nat.min_eq_right (show 4 ≤ t.val + 1 by omega)]
  iintro ⟨⟨⟨⟨%T, %hT, HT⟩, HM, HS⟩, Hg⟩, Ho, ⟨%d0, H0⟩, ⟨%d1, H1⟩, ⟨%d2, H2⟩, ⟨%d3, H3⟩, ⟨%d4, H4⟩⟩
  have he : emits (grid0.coords t) := (emits_iff t).mpr h
  iapply (emit_run c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) table (Memref.isWhole_whole _) runMax (Memref.isWhole_whole _) runSum (Memref.isWhole_whole _) (fun hr => by have := (resets_iff t).mp hr; omega) (fun hg => by have := (gathers_iff t).mp hg; omega) he
    (iblk m c 0 t) (iblk m c 1 t) (iblk m c 2 t) (iblk m c 3 t) ((dats m 0 c).before 4 t d4) T (state m c 4).1 (state m c 4).2)
  isplitl [H0]; · iexact H0
  isplitl [H1]; · iexact H1
  isplitl [H2]; · iexact H2
  isplitl [H3]; · iexact H3
  isplitl [H4]; · iexact H4
  isplitl [HT]; · iexact HT
  isplitl [HM]; · iexact HM
  isplitl [HS]; · iexact HS
  iintro ⟨H0, H1, H2, H3, H4, HT, HM, HS⟩
  isplitl [HT HM HS Hg]
  · isplitl [HT HM HS]
    · isplitl [HT]
      · iexists _; isplitr; swap; · iexact HT
        ipureintro; exact hT
      isplitl [HM]; · iexact HM
      iexact HS
    iexact Hg
  isplitl [Ho]; · iexact Ho
  isplitl [H0]; · iexact H0
  isplitl [H1]; · iexact H1
  isplitl [H2]; · iexact H2
  isplitl [H3]; · iexact H3
  have e : VecWindow.window T (k0_off2 (grid0.coords t)) S8x8192.size (k0_off2_inb _ he) = scores m c (t.val % 4) := by
    have key : ∀ (off : Fin 2 → ℕ) (ho : off = ![0, t.val % 4 * 8192]) (inb : ∀ a, off a + S8x8192.size a ≤ S8x32768.size a),
        VecWindow.window T off S8x8192.size inb = scores m c (t.val % 4) := by
      intro off ho inb; subst ho; exact hT (t.val % 4) (Nat.mod_lt _ (by omega)) inb
    exact key _ (off_read t) _
  unfold emitted
  rw [e]; iexact H4

theorem sound_body (c : Dev nD) (t : Fin cfg0.N) :
    entry m c t ⊢ wp frame (wpE (defs₀ (F := F)) Variants.none c none) Set.univ (bodyAt0 t) (fun _ => exit m c t) := by
  by_cases h0 : t.val = 0
  · exact body_reset m c t h0
  · by_cases h : t.val < 4
    · exact body_gather m c t h0 h
    · exact body_emit m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [Phi_at]; exact Idealize.SL.BI.Entails.refl _

theorem hout (c : Dev nD) : (dats m 0 c).Φ (Fin.last cfg0.N) ⊢ Pipeline.ΦA spec0 c := by
  rw [Phi_at, Phi_pos m c (by rw [Fin.val_last]; have : cfg0.N = 8 := N_0; omega), start_eq]
  iintro ⟨⟨⟨%T, %hT, HT⟩, HM, HS⟩, Hg⟩
  isplitl [HT HM HS]
  · isplitl [HT]
    · iexists _; iexact HT
    isplitl [HM]
    · iexists _; iexact HM
    iexists _; iexact HS
  iexact Hg

-- the launch theorem's implicit arguments are found by unifying its conclusion with this one, which takes unfolding
-- plain definitions in a metavariable's type
set_option backward.isDefEq.respectTransparency.types false in
/-- Every fair execution terminates with the arrays at the proof data's final contents and every counter at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_arrays : θ_run defs (onTc (τ := τ) (main (F := F))) (s₀ m ρ) (Pipeline.FramePost cfgs (dats m) 0 (V m)) :=
  (θ_run defs _ _).mono (fun _ h => h.1) (run_quiescent m ρ)

/-- The arguments end as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_arrays m ρ)) ((θ_run defs _ _).mono (fun _ h => h.2) (run_quiescent m ρ))

/-- The output array ends at the proof data's final contents. -/
theorem result : θ_run defs (onTc (τ := τ) (main (F := F))) ⟨m, fun _ => 0, ρ⟩ (fun r => ∀ c : Dev nD,
      r.2.mem ((c.tc : Thread nD τ).loc main_v4) = (dats m 0 c).arrAt 4 cfg0.N) :=
  (θ_run defs _ _).mono (fun _ h c => (h c).1 4) (run_arrays m ρ)

end Cert.KernelIdeal.Hand

end
-- ==== Proof.Math.lean ====
/- The mathematics shared by the two programs, over extended reals.

   Rows fall into groups. A group's maximum is taken over all rows, with the rows outside the group at −∞, and a group's
   sum adds up the exponentials of its rows' distances to that maximum. Taking the rows in blocks, keeping a running
   maximum and rescaling a running sum whenever the maximum grows, gives the same two numbers. -/
module

public import Idealize.ShloMosaic.Lib.Pointwise
public import Idealize.ShloMosaic.PureOps.Ideal.Laws

@[expose] public section

noncomputable section

namespace Cert.Proof.Math

open Idealize.ShloMosaic

/-! ## Exponentials of differences -/

theorem exp_nonneg (x : EReal) : 0 ≤ Ideal.exp x := by
  induction x with
  | bot => simp
  | top => simp
  | coe r => rw [Ideal.exp_coe]; exact_mod_cast (Real.exp_pos r).le

theorem exp_bot_sub (x : EReal) : Ideal.exp (⊥ - x) = 0 := by
  rw [sub_eq_add_neg, EReal.bot_add, Ideal.exp_bot]

/-- Moving the reference point from `M` up to `M'` multiplies the exponential by `exp (M - M')`. -/
theorem exp_rescale {a M M' : EReal} (ha : a ≤ M) (hM : M ≤ M') (hM' : M' ≠ ⊤) :
    Ideal.exp (a - M) * Ideal.exp (M - M') = Ideal.exp (a - M') := by
  induction a with
  | bot => rw [exp_bot_sub, exp_bot_sub, zero_mul]
  | top => exact absurd (top_le_iff.mp (ha.trans hM)) hM'
  | coe a =>
    induction M' with
    | bot => exact absurd (le_bot_iff.mp (ha.trans hM)) (EReal.coe_ne_bot a)
    | top => exact absurd rfl hM'
    | coe M' =>
      induction M with
      | bot => exact absurd (le_bot_iff.mp ha) (EReal.coe_ne_bot a)
      | top => exact absurd (top_le_iff.mp hM) hM'
      | coe M =>
        rw [← EReal.coe_sub, ← EReal.coe_sub, ← EReal.coe_sub, Ideal.exp_coe, Ideal.exp_coe, Ideal.exp_coe,
          ← EReal.coe_mul, ← Real.exp_add]
        congr 2; ring

/-- A factor distributes over a sum of terms none of which is negative. -/
theorem sum_mul_of_nonneg {ι : Type} (s : Finset ι) (f : ι → EReal) (c : EReal) (hf : ∀ i ∈ s, 0 ≤ f i) :
    (∑ i ∈ s, f i) * c = ∑ i ∈ s, f i * c := by
  classical
  induction s using Finset.induction_on with
  | empty => simp
  | insert i s hi ih =>
    rw [Finset.sum_insert hi, Finset.sum_insert hi,
      EReal.right_distrib_of_nonneg (hf i (Finset.mem_insert_self i s))
        (Finset.sum_nonneg fun j hj => hf j (Finset.mem_insert_of_mem hj)),
      ih fun j hj => hf j (Finset.mem_insert_of_mem hj)]

/-! ## The running maximum and the rescaled running sum -/

section Online

variable {ι : Type} [Fintype ι] (e : ℕ → ι → EReal) (M S : ℕ → EReal) (N : ℕ)

/-- The running maximum after `n` blocks is the maximum over those blocks. -/
theorem running_max (h0 : M 0 = ⊥) (hM : ∀ n < N, M (n + 1) = max (M n) (Finset.univ.sup (e n))) :
    ∀ n ≤ N, M n = (Finset.range n).sup fun k => Finset.univ.sup (e k)
  | 0, _ => by simp [h0]
  | n + 1, h => by
    rw [hM n h, running_max h0 hM n (Nat.le_of_lt h), Finset.range_add_one, Finset.sup_insert, max_comm]

/-- The running sum after `n` blocks is the sum over those blocks of the exponentials of the distances to the running
    maximum. -/
theorem running_sum (h0 : M 0 = ⊥) (hM : ∀ n < N, M (n + 1) = max (M n) (Finset.univ.sup (e n))) (hS0 : S 0 = 0)
    (hS : ∀ n < N, S (n + 1) = S n * Ideal.exp (M n - M (n + 1)) + ∑ l, Ideal.exp (e n l - M (n + 1)))
    (hfin : ∀ n ≤ N, M n ≠ ⊤) :
    ∀ n ≤ N, S n = ∑ k ∈ Finset.range n, ∑ l, Ideal.exp (e k l - M n)
  | 0, _ => by simp [hS0]
  | n + 1, h => by
    have below : ∀ k ∈ Finset.range n, ∀ l, e k l ≤ M n := fun k hk l => by
      rw [running_max e M N h0 hM n (Nat.le_of_lt h)]
      exact (Finset.le_sup (f := e k) (Finset.mem_univ l)).trans
        (Finset.le_sup (f := fun k => Finset.univ.sup (e k)) hk)
    have grows : M n ≤ M (n + 1) := by rw [hM n h]; exact le_max_left _ _
    rw [hS n h, running_sum h0 hM hS0 hS hfin n (Nat.le_of_lt h), Finset.sum_range_succ]
    congr 1
    rw [sum_mul_of_nonneg _ _ _ fun k _ => Finset.sum_nonneg fun l _ => exp_nonneg _]
    refine Finset.sum_congr rfl fun k hk => ?_
    rw [sum_mul_of_nonneg _ _ _ fun l _ => exp_nonneg _]
    exact Finset.sum_congr rfl fun l _ => exp_rescale (below k hk l) grows (hfin (n + 1) h)

end Online

/-! ## Rows, blocks of rows and groups of rows -/

/-- Row `l` of block `k` (modulo the number of blocks). -/
def rowOf (k : ℕ) (l : Fin 8192) : Fin 32768 := ⟨k % 4 * 8192 + l.val, by have := l.isLt; omega⟩

theorem sup_rows (f : Fin 32768 → EReal) :
    ((Finset.range 4).sup fun k => Finset.univ.sup fun l => f (rowOf k l)) = Finset.univ.sup f := by
  apply le_antisymm
  · exact Finset.sup_le fun k _ => Finset.sup_le fun l _ => Finset.le_sup (f := f) (Finset.mem_univ _)
  · refine Finset.sup_le fun r _ => ?_
    have hr := r.isLt
    have : f r = f (rowOf (r.val / 8192) ⟨r.val % 8192, Nat.mod_lt _ (by decide)⟩) :=
      congrArg f (Fin.ext (by simp only [rowOf]; omega))
    rw [this]
    exact (Finset.le_sup (f := fun l => f (rowOf (r.val / 8192) l)) (Finset.mem_univ _)).trans
      (Finset.le_sup (f := fun k => Finset.univ.sup fun l => f (rowOf k l)) (Finset.mem_range.mpr (by omega)))

theorem sum_rows (f : Fin 32768 → EReal) : (∑ k ∈ Finset.range 4, ∑ l, f (rowOf k l)) = ∑ r, f r := by
  rw [Finset.sum_range fun k => ∑ l, f (rowOf k l), ← Fintype.sum_prod_type' fun (k : Fin 4) l => f (rowOf k l)]
  refine Fintype.sum_equiv (finProdFinEquiv (m := 4) (n := 8192)) _ _ fun p => congrArg f (Fin.ext ?_)
  have := p.1.isLt
  simp only [rowOf, finProdFinEquiv, Equiv.coe_fn_mk]
  omega

variable (d : Fin 32768 → EReal) (g : Fin 32768 → BitVec 32) (s : BitVec 32)

/-- The rows' values with the rows outside group `s` at −∞. -/
def masked (r : Fin 32768) : EReal := if g r = s then d r else ⊥

/-- The maximum over group `s`. -/
def groupMax : EReal := Finset.univ.sup (masked d g s)

/-- The sum over group `s` of the exponentials of the distances to the group's maximum. -/
def groupSum : EReal := ∑ r ∈ Finset.univ.filter (fun r => g r = s), Ideal.exp (d r - groupMax d g s)

/-- Rows at −∞ add nothing to the sum. -/
theorem groupSum_eq_masked : groupSum d g s = ∑ r, Ideal.exp (masked d g s r - groupMax d g s) := by
  rw [groupSum, Finset.sum_filter]
  refine Finset.sum_congr rfl fun r _ => ?_
  by_cases h : g r = s
  · rw [if_pos h, masked, if_pos h]
  · rw [if_neg h, masked, if_neg h, exp_bot_sub]

variable {d g s}

theorem masked_ne_top (hd : ∀ r, d r ≠ ⊤) (r : Fin 32768) : masked d g s r ≠ ⊤ := by
  unfold masked; split
  · exact hd r
  · exact bot_ne_top

theorem groupMax_ne_top (hd : ∀ r, d r ≠ ⊤) : groupMax d g s ≠ ⊤ := by
  rw [← lt_top_iff_ne_top]
  exact (Finset.sup_lt_iff bot_lt_top).mpr fun r _ => lt_top_iff_ne_top.mpr (masked_ne_top hd r)

/-- The blocks' running maximum ends at the group's maximum and the running sum at the group's sum. -/
theorem online_group (hd : ∀ r, d r ≠ ⊤) (M S : ℕ → EReal) (h0 : M 0 = ⊥) (hS0 : S 0 = 0)
    (hM : ∀ n < 4, M (n + 1) = max (M n) (Finset.univ.sup fun l => masked d g s (rowOf n l)))
    (hS : ∀ n < 4, S (n + 1) = S n * Ideal.exp (M n - M (n + 1))
      + ∑ l, Ideal.exp (masked d g s (rowOf n l) - M (n + 1))) :
    M 4 = groupMax d g s ∧ S 4 = groupSum d g s := by
  have top : M 4 = groupMax d g s := by
    rw [running_max (fun k l => masked d g s (rowOf k l)) M 4 h0 hM 4 le_rfl, sup_rows]; rfl
  have fin : ∀ n ≤ 4, M n ≠ ⊤ := fun n hn => by
    rw [running_max (fun k l => masked d g s (rowOf k l)) M 4 h0 hM n hn, ← lt_top_iff_ne_top]
    exact (Finset.sup_lt_iff bot_lt_top).mpr fun k _ =>
      (Finset.sup_lt_iff bot_lt_top).mpr fun l _ => lt_top_iff_ne_top.mpr (masked_ne_top hd _)
  refine ⟨top, ?_⟩
  rw [running_sum (fun k l => masked d g s (rowOf k l)) M S 4 h0 hM hS0 hS fin 4 le_rfl, top,
    sum_rows fun r => Ideal.exp (masked d g s r - groupMax d g s), groupSum_eq_masked]

/-- A group with a row has a finite maximum. -/
theorem groupMax_real (hd : ∀ r, d r ≠ ⊤) (hb : ∀ r, d r ≠ ⊥) (r : Fin 32768) (hr : g r = s) :
    ∃ M : ℝ, groupMax d g s = M := by
  refine ⟨(groupMax d g s).toReal, (EReal.coe_toReal (groupMax_ne_top hd) fun h => hb r ?_).symm⟩
  have : masked d g s r ≤ groupMax d g s := Finset.le_sup (Finset.mem_univ r)
  rw [h, le_bot_iff, masked, if_pos hr] at this
  exact this

/-- A group with a row has a positive finite sum. -/
theorem groupSum_real (hd : ∀ r, d r ≠ ⊤) (hb : ∀ r, d r ≠ ⊥) (r : Fin 32768) (hr : g r = s) :
    ∃ S : ℝ, 0 < S ∧ groupSum d g s = S := by
  obtain ⟨M, hM⟩ := groupMax_real hd hb r hr
  refine ⟨∑ r ∈ Finset.univ.filter (fun r => g r = s), Real.exp ((d r).toReal - M), ?_, ?_⟩
  · exact Finset.sum_pos (fun _ _ => Real.exp_pos _) ⟨r, by simpa using hr⟩
  · rw [groupSum, hM]
    have : ∀ r, Ideal.exp (d r - M) = ((Real.exp ((d r).toReal - M) : ℝ) : EReal) := fun r => by
      conv_lhs => rw [← EReal.coe_toReal (hd r) (hb r)]
      rw [← EReal.coe_sub, Ideal.exp_coe]
    simp only [this]
    exact (map_sum (⟨⟨Real.toEReal, EReal.coe_zero⟩, EReal.coe_add⟩ : ℝ →+ EReal) _ _).symm

/-- Subtracting a group's log-sum-exp at once or in two steps is the same, whatever `a` is. -/
theorem subtract_eq (hd : ∀ r, d r ≠ ⊤) (hb : ∀ r, d r ≠ ⊥) (a : EReal) (r : Fin 32768) (hr : g r = s) :
    (a + d r) - (groupMax d g s + Ideal.log (groupSum d g s))
      = a + (d r - groupMax d g s - Ideal.log (groupSum d g s)) := by
  obtain ⟨M, hM⟩ := groupMax_real hd hb r hr
  obtain ⟨S, hpos, hS⟩ := groupSum_real hd hb r hr
  rw [hM, hS, Ideal.log_coe, if_neg (not_le.mpr hpos), ← EReal.coe_toReal (hd r) (hb r)]
  induction a with
  | bot => simp only [sub_eq_add_neg, EReal.bot_add]
  | top => rw [EReal.top_add_coe, ← EReal.coe_add, ← EReal.coe_sub, ← EReal.coe_sub, EReal.top_sub_coe, EReal.top_add_coe]
  | coe a =>
    rw [← EReal.coe_add, ← EReal.coe_add, ← EReal.coe_sub, ← EReal.coe_sub, ← EReal.coe_sub, ← EReal.coe_add]
    exact congrArg Real.toEReal (by ring)

/-! ## The function both programs compute -/

/-- A row's log-softmax of eight logits, at entry `j`. -/
def logSoftmax (p : Fin 8 → EReal) (j : Fin 8) : EReal :=
  p j - Finset.univ.sup p - Ideal.log (∑ i, Ideal.exp (p i - Finset.univ.sup p))

/-- Entry `j` of row `r` of `x · w + b`. -/
def logit {n : ℕ} (x : (⟨2, ![32768, 128]⟩ : Shape).Idx → EReal) (w : (⟨2, ![128, n]⟩ : Shape).Idx → EReal)
    (b : (⟨1, ![n]⟩ : Shape).Idx → EReal) (r : Fin 32768) (j : Fin n) : EReal :=
  ∑ k, x (ix2 r k) * w (ix2 k j) + b (ix1 j)

section Output

variable (x : (⟨2, ![32768, 128]⟩ : Shape).Idx → EReal) (g : (⟨1, ![32768]⟩ : Shape).Idx → BitVec 32)
  (wd : (⟨2, ![128, 1]⟩ : Shape).Idx → EReal) (bd : (⟨1, ![1]⟩ : Shape).Idx → EReal)
  (wa : (⟨2, ![128, 8]⟩ : Shape).Idx → EReal) (ba : (⟨1, ![8]⟩ : Shape).Idx → EReal)

/-- The device logit of row `r`. -/
def device (r : Fin 32768) : EReal := logit x wd bd r 0

/-- The group of row `r`, as its index word. -/
def group (r : Fin 32768) : BitVec 32 := g (ix1 r)

/-- The log-probability of action `j` at row `r` plus that of the row within its group. -/
def output (r : Fin 32768) (j : Fin 8) : EReal :=
  logSoftmax (logit x wa ba r) j
    + (device x wd bd r - groupMax (device x wd bd) (group g) (group g r)
        - Ideal.log (groupSum (device x wd bd) (group g) (group g r)))

end Output

/-! ## Reading the programs' scalar operations -/

theorem ofBits_neg_inf : Ideal.ofBits .f32 4286578688#32 = (⊥ : EReal) := by
  simp [Ideal.ofBits, Ideal.ieee]

/-- A maximum started from −∞ is the supremum. -/
theorem fold_max_bot {ι : Type} (s : Finset ι) (f : ι → EReal) : Finset.fold max ⊥ f s = s.sup f := rfl

/-- Choosing by equality of two words. -/
theorem select_eq (a b : BitVec 32) (u v : EReal) :
    Scalar.select (IntOp.cmpi .eq a b) u v = if a = b then u else v := by
  by_cases h : a = b
  · simp [Scalar.select, IntOp.cmpi, h]
  · simp [Scalar.select, IntOp.cmpi, h, beq_eq_false_iff_ne.mpr h]

end Cert.Proof.Math
end
-- ==== Proof.Blocks.lean ====
/- What the kernel's blocks hold, read from the arguments.

   Block `k` of the rows and of the index words holds rows `8192 k` to `8192 k + 8191`; the weights and the biases are
   the action ones with the device one appended as column (row) 8. -/
module

public import proofs.«01_k».proof.Proof.Invariant
public import proofs.«01_k».proof.Proof.Math
public import Idealize.ShloMosaic.Lib.Pointwise
public import Idealize.ShloMosaic.Lib.Claim
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Cert.Proof.Math

variable (m : (ℓ : Loc nD τ sig) → Buf (Elt Ideal) ℓ) (c : Dev nD)

/-! ## The arguments -/

/-- The embeddings. -/
abbrev X : Vec Ideal S32768x128 .f32 := m ((c : Thread nD τ).loc main_arg0)
/-- The index words. -/
abbrev Gr : Vec Ideal S32768 .i32 := m ((c : Thread nD τ).loc main_arg1)
/-- The device weights. -/
abbrev Wd : Vec Ideal S128x1 .f32 := m ((c : Thread nD τ).loc main_arg2)
/-- The device bias. -/
abbrev Bd : Vec Ideal S1 .f32 := m ((c : Thread nD τ).loc main_arg3)
/-- The action weights. -/
abbrev Wa : Vec Ideal S128x8 .f32 := m ((c : Thread nD τ).loc main_arg4)
/-- The action biases. -/
abbrev Ba : Vec Ideal S8 .f32 := m ((c : Thread nD τ).loc main_arg5)

/-! ## The arrays the host prepares -/

theorem words_at (r : Fin 32768) : V m c main_v0 (ix2 0 r) = Gr m c (ix1 r) := by
  entry_read
  pointwise

theorem weights_action (k : Fin 128) (j : Fin 8) : V m c main_v1 (ix2 k ⟨j.val, by omega⟩) = Wa m c (ix2 k j) := by
  entry_read
  pointwise

theorem weights_device (k : Fin 128) : V m c main_v1 (ix2 k 8) = Wd m c (ix2 k 0) := by
  entry_read
  pointwise

theorem biases_action (j : Fin 8) : V m c main_v3 (ix2 ⟨j.val, by omega⟩ 0) = Ba m c (ix1 j) := by
  entry_read
  pointwise

theorem biases_device : V m c main_v3 (ix2 8 0) = Bd m c (ix1 0) := by
  entry_read
  pointwise

/-! ## Where the blocks lie -/

theorem index0 : ∀ t : Fin cfg0.N, win0_0.index t (0 : Fin 2) = 0 ∧ win0_0.index t (1 : Fin 2) = t.val % 4 :=
  (by decide +kernel : ∀ t : Fin grid0.N, _)
theorem index1 : ∀ t : Fin cfg0.N, win0_1.index t (0 : Fin 2) = min t.val 3 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val - 4 ∧ win0_4.index t (1 : Fin 2) = 0 :=
  (by decide +kernel : ∀ t : Fin grid0.N, _)

theorem emb0 (t : Fin cfg0.N) (l : Fin 8192) :
    ((cfg0.win 0).blk t).view.emb (ix2 0 l : S1x8192.Idx) = (ix2 0 (rowOf t.val l) : S1x32768.Idx) := by
  obtain ⟨e0, e1⟩ := index0 t
  funext a; apply Fin.ext
  match a with
  | ⟨0, _⟩ => show win0_0.index t (0 : Fin 2) * 1 + 1 * 0 = 0; omega
  | ⟨1, _⟩ => show win0_0.index t (1 : Fin 2) * 8192 + 1 * l.val = t.val % 4 * 8192 + l.val; omega

theorem emb1 (t : Fin cfg0.N) (ht : t.val < 4) (l : Fin 8192) (k : Fin 128) :
    ((cfg0.win 1).blk t).view.emb (ix2 l k : S8192x128.Idx) = (ix2 (rowOf t.val l) k : S32768x128.Idx) := by
  obtain ⟨e0, e1⟩ := index1 t
  funext a; apply Fin.ext
  match a with
  | ⟨0, _⟩ => show win0_1.index t (0 : Fin 2) * 8192 + 1 * l.val = t.val % 4 * 8192 + l.val; omega
  | ⟨1, _⟩ => show win0_1.index t (1 : Fin 2) * 128 + 1 * k.val = k.val; omega

theorem emb2 (t : Fin cfg0.N) (k : Fin 128) (j : Fin 9) :
    ((cfg0.win 2).blk t).view.emb (ix2 k j : S128x9.Idx) = (ix2 k j : S128x9.Idx) := by
  obtain ⟨e0, e1⟩ := index2 t
  funext a; apply Fin.ext
  match a with
  | ⟨0, _⟩ => show win0_2.index t (0 : Fin 2) * 128 + 1 * k.val = k.val; omega
  | ⟨1, _⟩ => show win0_2.index t (1 : Fin 2) * 9 + 1 * j.val = j.val; omega

theorem emb3 (t : Fin cfg0.N) (j : Fin 9) :
    ((cfg0.win 3).blk t).view.emb (ix2 j 0 : S9x1.Idx) = (ix2 j 0 : S9x1.Idx) := by
  obtain ⟨e0, e1⟩ := index3 t
  funext a; apply Fin.ext
  match a with
  | ⟨0, _⟩ => show win0_3.index t (0 : Fin 2) * 9 + 1 * j.val = j.val; omega
  | ⟨1, _⟩ => show win0_3.index t (1 : Fin 2) * 1 + 1 * 0 = 0; omega

theorem emb4 (t : Fin cfg0.N) (ht : 4 ≤ t.val) (l : Fin 8192) (j : Fin 8) :
    ((cfg0.win 4).blk t).view.emb (ix2 l j : S8192x8.Idx) = (ix2 (rowOf t.val l) j : S32768x8.Idx) := by
  obtain ⟨e0, e1⟩ := index4 t
  have hN : t.val < 8 := lt_of_lt_of_eq t.isLt N_0
  funext a; apply Fin.ext
  match a with
  | ⟨0, _⟩ => show win0_4.index t (0 : Fin 2) * 8192 + 1 * l.val = t.val % 4 * 8192 + l.val; omega
  | ⟨1, _⟩ => show win0_4.index t (1 : Fin 2) * 8 + 1 * j.val = j.val; omega

/-! ## The blocks -/

theorem iblk0_at (t : Fin cfg0.N) (l : Fin 8192) :
    (iblk m c 0 t : Vec Ideal S1x8192 .i32) (ix2 0 l) = group (Gr m c) (rowOf t.val l) := by
  show V m c main_v0 (((cfg0.win 0).blk t).view.emb (ix2 0 l : S1x8192.Idx)) = _
  rw [emb0]
  exact words_at m c _

theorem iblk1_at (t : Fin cfg0.N) (ht : t.val < 4) (l : Fin 8192) (k : Fin 128) :
    (iblk m c 1 t : Vec Ideal S8192x128 .f32) (ix2 l k) = X m c (ix2 (rowOf t.val l) k) := by
  show V m c main_arg0 (((cfg0.win 1).blk t).view.emb (ix2 l k : S8192x128.Idx)) = _
  rw [emb1 t ht, V_main_arg0]

theorem iblk2_at (t : Fin cfg0.N) (k : Fin 128) (j : Fin 9) :
    (iblk m c 2 t : Vec Ideal S128x9 .f32) (ix2 k j) = V m c main_v1 (ix2 k j) := by
  show V m c main_v1 (((cfg0.win 2).blk t).view.emb (ix2 k j : S128x9.Idx)) = _
  rw [emb2]

theorem iblk3_at (t : Fin cfg0.N) (j : Fin 9) :
    (iblk m c 3 t : Vec Ideal S9x1 .f32) (ix2 j 0) = V m c main_v3 (ix2 j 0) := by
  show V m c main_v3 (((cfg0.win 3).blk t).view.emb (ix2 j 0 : S9x1.Idx)) = _
  rw [emb3]

theorem weight_device_at (t : Fin cfg0.N) (k : Fin 128) :
    (iblk m c 2 t : Vec Ideal S128x9 .f32) (ix2 k 8) = Wd m c (ix2 k 0) :=
  (iblk2_at m c t k 8).trans (weights_device m c k)

theorem weight_action_at (t : Fin cfg0.N) (k : Fin 128) (j : Fin 8) :
    (iblk m c 2 t : Vec Ideal S128x9 .f32) (ix2 k ⟨j.val, by omega⟩) = Wa m c (ix2 k j) :=
  (iblk2_at m c t k _).trans (weights_action m c k j)

theorem bias_device_at (t : Fin cfg0.N) :
    (iblk m c 3 t : Vec Ideal S9x1 .f32) (ix2 8 0) = Bd m c (ix1 0) :=
  (iblk3_at m c t 8).trans (biases_device m c)

theorem bias_action_at (t : Fin cfg0.N) (j : Fin 8) :
    (iblk m c 3 t : Vec Ideal S9x1 .f32) (ix2 ⟨j.val, by omega⟩ 0) = Ba m c (ix1 j) :=
  (iblk3_at m c t _).trans (biases_action m c j)

end Cert.KernelIdeal.Hand

end
-- ==== Proof.Payloads.lean ====
/- What one grid point computes from its blocks, element by element, over extended reals. -/
module

public import proofs.«01_k».proof.Proof.Body
public import proofs.«01_k».proof.Proof.Math
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen
open Idealize.ShloMosaic
open Cert.Proof.Math

variable (x : Vec Ideal S8192x128 .f32) (w : Vec Ideal S128x9 .f32) (b : Vec Ideal S9x1 .f32)
  (bi : Vec Ideal S1x8192 .i32) (mx sm : Vec Ideal S16x1 .f32)

/-- The mask's value is −∞. -/
theorem mask_eq : Named.named (F := Ideal) κ "mask" (φ := .f32) 4048155338#32 = (⊥ : EReal) := rfl

/-- Logit `j` of row `l` of the block. -/
theorem logits_at (j : Fin 9) (l : Fin 8192) :
    k0_pay6 (F := Ideal) x w b (ix2 j l) = ∑ k, x (ix2 l k) * w (ix2 k j) + b (ix2 j 0) := by
  pointwise [k0_pay6]
  simp only [mul_comm]

/-- A row's score: the log-softmax of its action logits plus its device logit. -/
theorem score_at (j : Fin 8) (l : Fin 8192) :
    k0_pay8 (F := Ideal) x w b (ix2 j l)
      = logSoftmax (fun i : Fin 8 => k0_pay6 (F := Ideal) x w b (ix2 ⟨i.val, by omega⟩ l)) j
        + k0_pay6 (F := Ideal) x w b (ix2 8 l) := by
  pointwise [k0_pay8, k0_pay7]
  simp only [ofBits_neg_inf, fold_max_bot]
  rfl

/-- A row's device logit in its own group, −∞ in the others. -/
theorem masked_at (s : Fin 16) (l : Fin 8192) :
    k0_pay9 (F := Ideal) x w b bi (ix2 s l)
      = if bi (ix2 0 l) = BitVec.ofNat 32 s.val then k0_pay6 (F := Ideal) x w b (ix2 8 l) else ⊥ := by
  pointwise [k0_pay9, k0_pay7]
  rw [select_eq, mask_eq]

/-- The running maximum grows to the block's largest in the group. -/
theorem nextMax_at (s : Fin 16) :
    nextMax (F := Ideal) bi x w b mx (ix2 s 0)
      = max (mx (ix2 s 0)) (Finset.univ.sup fun l => k0_pay9 (F := Ideal) x w b bi (ix2 s l)) := by
  pointwise [nextMax, k0_pay4, k0_pay10]
  simp only [ofBits_neg_inf, fold_max_bot]

/-- The running sum is rescaled to the new maximum and the block's exponentials are added. -/
theorem nextSum_at (s : Fin 16) :
    nextSum (F := Ideal) bi x w b mx sm (ix2 s 0)
      = sm (ix2 s 0) * Ideal.exp (mx (ix2 s 0) - nextMax (F := Ideal) bi x w b mx (ix2 s 0))
        + ∑ l, Ideal.exp (k0_pay9 (F := Ideal) x w b bi (ix2 s l) - nextMax (F := Ideal) bi x w b mx (ix2 s 0)) := by
  have e : nextMax (F := Ideal) bi x w b mx (ix2 s 0) = k0_pay10 (F := Ideal) x w b bi mx (ix2 s 0) := by
    pointwise [nextMax, k0_pay4]
  rw [e]
  pointwise [nextSum, k0_pay3, k0_pay11]

/-- The output is the table's entry less the group's maximum plus the logarithm of its sum. -/
theorem out_at (T : Vec Ideal S8x8192 .f32) (l : Fin 8192) (j : Fin 8) :
    k0_pay5 (F := Ideal) mx sm bi T (ix2 l j)
      = T (ix2 j l) - ∑ s : Fin 16,
          if bi (ix2 0 l) = BitVec.ofNat 32 s.val then mx (ix2 s 0) + Ideal.log (sm (ix2 s 0)) else 0 := by
  pointwise [k0_pay5]
  simp only [select_eq]

/-- The running maximum starts at −∞. -/
theorem startMax_at (s : Fin 16) : k0_pay1 (F := Ideal) (ix2 s 0) = (⊥ : EReal) := by
  pointwise [k0_pay1]
  exact mask_eq

/-- The running sum starts at zero. -/
theorem startSum_at (s : Fin 16) : k0_pay2 (F := Ideal) (ix2 s 0) = (0 : EReal) := by
  pointwise [k0_pay2]

end Cert.KernelIdeal.Hand

end
-- ==== Proof.Array.lean ====
/- What the kernel's output array holds: the same function of the arguments as the reference, at every row and action,
   when the device logits are finite and every index is one of the sixteen groups. -/
module

public import proofs.«01_k».proof.Proof.Blocks
public import proofs.«01_k».proof.Proof.Payloads
public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe
open Cert.Proof.Math

variable (m : (ℓ : Loc nD τ sig) → Buf (Elt Ideal) ℓ) (c : Dev nD)

/-- The rows' device logits. -/
abbrev dev (r : Fin 32768) : EReal := device (X m c) (Wd m c) (Bd m c) r

/-! ## The logits of a block -/

theorem pt_lt {n : ℕ} (hn : n < 4) : (pt n).val = n := Nat.mod_eq_of_lt (by omega)

theorem block_device {n : ℕ} (hn : n < 4) (l : Fin 8192) :
    k0_pay6 (F := Ideal) (iblk m c 1 (pt n)) (iblk m c 2 (pt n)) (iblk m c 3 (pt n)) (ix2 8 l) = dev m c (rowOf n l) := by
  refine (logits_at _ _ _ 8 l).trans ?_
  simp only [iblk1_at m c (pt n) (by rw [pt_lt hn]; exact hn), weight_device_at, bias_device_at, pt_lt hn]
  rfl

theorem block_action {n : ℕ} (hn : n < 4) (j : Fin 8) (l : Fin 8192) :
    k0_pay6 (F := Ideal) (iblk m c 1 (pt n)) (iblk m c 2 (pt n)) (iblk m c 3 (pt n)) (ix2 ⟨j.val, by omega⟩ l)
      = logit (X m c) (Wa m c) (Ba m c) (rowOf n l) j := by
  refine (logits_at _ _ _ _ l).trans ?_
  simp only [iblk1_at m c (pt n) (by rw [pt_lt hn]; exact hn), weight_action_at, bias_action_at, pt_lt hn]
  rfl

theorem block_masked {n : ℕ} (hn : n < 4) (s : Fin 16) (l : Fin 8192) :
    k0_pay9 (F := Ideal) (iblk m c 1 (pt n)) (iblk m c 2 (pt n)) (iblk m c 3 (pt n)) (iblk m c 0 (pt n)) (ix2 s l)
      = masked (dev m c) (group (Gr m c)) (BitVec.ofNat 32 s.val) (rowOf n l) := by
  refine (masked_at _ _ _ _ s l).trans ?_
  rw [block_device m c hn, iblk0_at, pt_lt hn]
  rfl

theorem scores_at {n : ℕ} (hn : n < 4) (j : Fin 8) (l : Fin 8192) :
    scores m c n (ix2 j l) = logSoftmax (logit (X m c) (Wa m c) (Ba m c) (rowOf n l)) j + dev m c (rowOf n l) := by
  refine (score_at _ _ _ j l).trans ?_
  rw [block_device m c hn]
  simp only [block_action m c hn]

/-! ## The running maximum and sum -/

/-- After the four blocks the running maximum and sum are the group's. -/
theorem state_at (hd : ∀ r, dev m c r ≠ ⊤) (s : Fin 16) :
    (state m c 4).1 (ix2 s 0) = groupMax (dev m c) (group (Gr m c)) (BitVec.ofNat 32 s.val)
      ∧ (state m c 4).2 (ix2 s 0) = groupSum (dev m c) (group (Gr m c)) (BitVec.ofNat 32 s.val) := by
  have hM : ∀ n < 4, (state m c (n + 1)).1 (ix2 s 0) = max ((state m c n).1 (ix2 s 0))
      (Finset.univ.sup fun l => masked (dev m c) (group (Gr m c)) (BitVec.ofNat 32 s.val) (rowOf n l)) := fun n hn => by
    refine (nextMax_at _ _ _ _ _ s).trans ?_
    simp only [block_masked m c hn]
  refine online_group hd (fun n => (state m c n).1 (ix2 s 0)) (fun n => (state m c n).2 (ix2 s 0))
    (startMax_at s) (startSum_at s) hM fun n hn => ?_
  refine (nextSum_at _ _ _ _ _ _ s).trans ?_
  simp only [block_masked m c hn]
  rfl

/-! ## The output -/

theorem emitted_at (hd : ∀ r, dev m c r ≠ ⊤) (hb : ∀ r, dev m c r ≠ ⊥)
    (hg : ∀ r, ∃ s : Fin 16, Gr m c (ix1 r) = BitVec.ofNat 32 s.val) (t : Fin cfg0.N) (l : Fin 8192) (j : Fin 8) :
    emitted m c t (ix2 l j) = output (X m c) (Gr m c) (Wd m c) (Bd m c) (Wa m c) (Ba m c) (rowOf t.val l) j := by
  have row : rowOf (t.val % 4) l = rowOf t.val l := Fin.ext (by simp only [rowOf]; omega)
  obtain ⟨s, hs⟩ := hg (rowOf t.val l)
  have word : group (Gr m c) (rowOf t.val l) = BitVec.ofNat 32 s.val := hs
  refine (out_at _ _ _ _ l j).trans ?_
  rw [scores_at m c (Nat.mod_lt _ (by decide)), row, iblk0_at, word]
  rw [Finset.sum_eq_single s
    (fun u _ hu => if_neg fun q => hu (by revert q; clear * -; revert s u; decide))
    (fun h => absurd (Finset.mem_univ s) h), if_pos rfl, (state_at m c hd s).1, (state_at m c hd s).2,
    subtract_eq hd hb _ (rowOf t.val l) word, output, word]

/-- The whole output array. -/
theorem array_eq (hd : ∀ r, dev m c r ≠ ⊤) (hb : ∀ r, dev m c r ≠ ⊥)
    (hg : ∀ r, ∃ s : Fin 16, Gr m c (ix1 r) = BitVec.ofNat 32 s.val) :
    (dats m 0 c).arrAt 4 cfg0.N
      = fun i : S32768x8.Idx => output (X m c) (Gr m c) (Wd m c) (Bd m c) (Wa m c) (Ba m c) (i 0) (i 1) := by
  refine (dats m 0 c).arrAt_eq_of_cover 4 _ (fun t ht => ?_) (fun i => ?_)
  · have ht4 : 4 ≤ t.val := (flush_out t).mp ht
    funext y
    obtain ⟨l, j, rfl⟩ : ∃ (l : Fin 8192) (j : Fin 8), y = (ix2 l j : S8192x8.Idx) := ⟨y 0, y 1, eq_ix2 _⟩
    refine ((congrFun (after4 m c t) _).trans (emitted_at m c hd hb hg t l j)).trans ?_
    exact (congrArg (fun i : S32768x8.Idx => output (X m c) (Gr m c) (Wd m c) (Bd m c) (Wa m c) (Ba m c) (i 0) (i 1))
      (emb4 t ht4 l j)).symm
  · have hi : (i 0).val < 32768 := (i 0).isLt
    let t : Fin cfg0.N := ⟨4 + (i 0).val / 8192, by rw [show cfg0.N = 8 from N_0]; omega⟩
    have ht : 4 ≤ t.val := Nat.le_add_right _ _
    refine ⟨t, (flush_out t).mpr ht, ?_⟩
    have h := ((cfg0.win 4).blk t).view.emb_mem_set
      (ix2 ⟨(i 0).val % 8192, Nat.mod_lt _ (by decide)⟩ (i 1) : S8192x8.Idx)
    have e : (ix2 (rowOf t.val ⟨(i 0).val % 8192, Nat.mod_lt _ (by decide)⟩) (i 1) : S32768x8.Idx) = i := by
      funext a; apply Fin.ext
      match a with
      | ⟨0, _⟩ => show (4 + (i 0).val / 8192) % 4 * 8192 + (i 0).val % 8192 = (i 0).val; omega
      | ⟨1, _⟩ => rfl
    exact ((emb4 t ht _ _).trans e) ▸ h

end Cert.KernelIdeal.Hand

end
-- ==== Proof.Reference.lean ====
/- What the reference computes: at row `r` and action `j`, the log-softmax of the action logits plus the row's device
   logit less its group's log-sum-exp, provided every row's index is one of the sixteen groups. -/
module

public import proofs.«01_k».proof.Proof.Gen.ReferenceIdeal
public import proofs.«01_k».proof.Proof.Gen.ReferenceIdeal.Read
public import proofs.«01_k».proof.Proof.Math
public import Idealize.ShloMosaic.Lib.Pointwise
public import Idealize.ShloMosaic.Lib.Tactic.WordOmega
public import Idealize.ShloMosaic.Lib.Routing.OpsSearch
public import Idealize.ShloMosaic.Lib.Routing.OpsPair
public import Idealize.ShloMosaic.PureOps.Ideal.Laws

@[expose] public section

set_option maxRecDepth 16384

noncomputable section

namespace Cert.ReferenceIdeal.Hand

open Cert.ReferenceIdeal Cert.ReferenceIdeal.Gen Cert.ReferenceIdeal.Read
open Idealize.ShloMosaic Cert.Proof.Math

variable (x : (⟨S32768x128, .f32⟩ : BufTy).Contents (Elt Ideal)) (g : (⟨S32768, .i32⟩ : BufTy).Contents (Elt Ideal))
  (wd : (⟨S128x1, .f32⟩ : BufTy).Contents (Elt Ideal)) (bd : (⟨S1, .f32⟩ : BufTy).Contents (Elt Ideal))
  (wa : (⟨S128x8, .f32⟩ : BufTy).Contents (Elt Ideal)) (ba : (⟨S8, .f32⟩ : BufTy).Contents (Elt Ideal))

/-! ## The logits and the action scores -/

theorem device_at (r : Fin 32768) : val_main_v8 (F := Ideal) x wd bd (ix1 r) = device x wd bd r := by
  pointwise [val_main_v8, val_main_v3, val_main_v2, val_main_v1, val_main_v0]
  rfl

theorem action_at (r : Fin 32768) (j : Fin 8) : val_main_v7 (F := Ideal) x wa ba (ix2 r j) = logit x wa ba r j := by
  pointwise [val_main_v7, val_main_v6, val_main_v5, val_main_v4]
  rfl

theorem scores_at (r : Fin 32768) (j : Fin 8) :
    val_main_v40 (F := Ideal) x wa ba (ix2 r j) = logSoftmax (logit x wa ba r) j := by
  pointwise [val_main_v40, val_main_call1_v10, val_main_call1_v9, val_main_call1_v8, val_main_call1_v7,
    val_main_call1_v6, val_main_call1_v5, val_main_call1_v4, val_main_call1_v3, val_main_call1_v2, val_main_call1_v1,
    val_main_call1_v0, val_main_call1_cst, val_main_call1_cst_0, val_main_call1_cst_1]
  simp only [action_at, ofBits_neg_inf, fold_max_bot, bot_le, max_eq_right]
  rfl

/-! ## The groups -/

/-- The masked maximum at group `s`. -/
theorem groupMax_at (s : Fin 16) :
    val_main_v17 (F := Ideal) x g wd bd (ix1 s) = groupMax (device x wd bd) (group g) (BitVec.ofNat 32 s.val) := by
  pointwise [val_main_v17, val_main_v16, val_main_v14, val_main_call0_v1, val_main_call0_v2, val_main_call0_v0,
    val_main_v15, val_main_v13, val_main_v12, val_main_v11, val_main_v10, val_main_v9, val_main_cst, val_main_cst_0]
  have inf : id (constant (F := Ideal) S_ FTy.f32 4286578688#32) ix0 = (⊥ : EReal) := ofBits_neg_inf
  simp only [device_at, ofBits_neg_inf, fold_max_bot, inf, select_eq]
  rfl

/-- A group's index word is not negative, so it stays as it is. -/
theorem index_at (r : Fin 32768) (s : Fin 16) (h : g (ix1 r) = BitVec.ofNat 32 s.val) :
    val_main_v23 (F := Ideal) g (ix2 r 0) = BitVec.ofNat 32 s.val := by
  pointwise [val_main_v23, val_main_v22, val_main_v21, val_main_v20, val_main_v19, val_main_v18, val_main_c, val_main_c_1]
  rw [h]
  clear h
  revert s; decide

theorem index_at' (r : Fin 32768) (s : Fin 16) (h : g (ix1 r) = BitVec.ofNat 32 s.val) :
    val_main_v36 (F := Ideal) g (ix2 r 0) = BitVec.ofNat 32 s.val := index_at g r s h

/-- A row's device logit less its group's maximum. -/
theorem shifted_at (r : Fin 32768) (s : Fin 16) (h : g (ix1 r) = BitVec.ofNat 32 s.val) :
    val_main_v25 (F := Ideal) x g wd bd (ix1 r)
      = device x wd bd r - groupMax (device x wd bd) (group g) (BitVec.ofNat 32 s.val) := by
  have e : val_main_v24 (F := Ideal) x g wd bd (ix1 r) = groupMax (device x wd bd) (group g) (BitVec.ofNat 32 s.val) :=
    (Routing.take_ap gather_S16_S32768x1_S32768_n_0_n_n_0_1_1 rfl rfl rfl rfl (val_main_v17 (F := Ideal) x g wd bd)
      (val_main_v23 (F := Ideal) g) r s.isLt (by have := s.isLt; omega) (index_at g r s h)).trans (groupMax_at x g wd bd s)
  rw [val_main_v25_apply, e, device_at]
  rfl

/-- Row `r`'s update lands at group `s` exactly when the row's index word, read signed, is `s`. -/
theorem lands (idx : IVec S32768x1 32) (r : Fin 32768) (s : Fin 16) :
    scatter_S16_S32768x1_S32768_n_0_0_1.resultIdx? (ix1 r) idx = some (ix1 s) ↔ (idx (ix2 r 0)).toInt = (s.val : Int) := by
  have hs : scatter_S16_S32768x1_S32768_n_0_0_1.start (ix1 r) idx 0 = (idx (ix2 r 0)).toInt := by
    unfold ScatterDims.start
    rw [dif_pos (by decide)]
    refine congrArg (fun k => (idx k).toInt) (funext fun a => Fin.ext ?_)
    match a with
    | ⟨0, _⟩ => rfl
    | ⟨1, _⟩ => rfl
  have hw : scatter_S16_S32768x1_S32768_n_0_0_1.window (ix1 r) 0 = 0 := by
    unfold ScatterDims.window
    rw [dif_neg (by decide)]
  refine (Routing.resultIdx?_ix1 scatter_S16_S32768x1_S32768_n_0_0_1 (ix1 r) idx s).trans ?_
  rw [hs, hw]
  simp

/-- The scattered sum at group `s`. -/
theorem groupSum_at (hg : ∀ r, ∃ s : Fin 16, g (ix1 r) = BitVec.ofNat 32 s.val) (s : Fin 16) :
    val_main_v29 (F := Ideal) x g wd bd (ix1 s) = groupSum (device x wd bd) (group g) (BitVec.ofNat 32 s.val) := by
  have zero : val_main_v27 (F := Ideal) (ix1 s) = (0 : EReal) := by
    pointwise [val_main_v27, val_main_cst_2]
  show val_main_v27 (F := Ideal) (ix1 s)
      + ∑ k ∈ Finset.univ.filter (fun k => scatter_S16_S32768x1_S32768_n_0_0_1.resultIdx? k (val_main_v28 (F := Ideal) g)
          = some (ix1 s)), val_main_v26 (F := Ideal) x g wd bd k = _
  rw [zero, zero_add, Finset.sum_filter, sum_idx1, groupSum, Finset.sum_filter]
  refine Finset.sum_congr rfl fun r _ => ?_
  obtain ⟨t, ht⟩ := hg r
  have word : val_main_v28 (F := Ideal) g (ix2 r 0) = g (ix1 r) := by pointwise [val_main_v28]
  have iff : scatter_S16_S32768x1_S32768_n_0_0_1.resultIdx? (ix1 r) (val_main_v28 (F := Ideal) g) = some (ix1 s)
      ↔ group g r = BitVec.ofNat 32 s.val := by
    rw [lands, word, group, ht]
    clear zero ht
    revert s t; decide
  by_cases h : group g r = BitVec.ofNat 32 s.val
  · rw [if_pos h, if_pos (iff.mpr h), val_main_v26_apply, shifted_at x g wd bd r s h]
    rfl
  · rw [if_neg h, if_neg fun q => h (iff.mp q)]

theorem log_at (hg : ∀ r, ∃ s : Fin 16, g (ix1 r) = BitVec.ofNat 32 s.val) (s : Fin 16) :
    val_main_v30 (F := Ideal) x g wd bd (ix1 s)
      = Ideal.log (groupSum (device x wd bd) (group g) (BitVec.ofNat 32 s.val)) := by
  rw [← groupSum_at x g wd bd hg s]
  pointwise [val_main_v30]

/-! ## The result -/

theorem parts_at (r : Fin 32768) (j : Fin 8) : val_main_v42 (F := Ideal) x g wd bd wa ba (ix2 r j)
    = val_main_v40 (F := Ideal) x wa ba (ix2 r j)
      + (val_main_v25 (F := Ideal) x g wd bd (ix1 r) - val_main_v37 (F := Ideal) x g wd bd (ix1 r)) := by
  pointwise [val_main_v42, val_main_v41, val_main_v39, val_main_v38]

theorem output_at (hg : ∀ r, ∃ s : Fin 16, g (ix1 r) = BitVec.ofNat 32 s.val) (r : Fin 32768) (j : Fin 8) :
    val_main_v42 (F := Ideal) x g wd bd wa ba (ix2 r j) = output x g wd bd wa ba r j := by
  obtain ⟨s, h⟩ := hg r
  have e : val_main_v37 (F := Ideal) x g wd bd (ix1 r)
      = Ideal.log (groupSum (device x wd bd) (group g) (BitVec.ofNat 32 s.val)) :=
    (Routing.take_ap gather_S16_S32768x1_S32768_n_0_n_n_0_1_1 rfl rfl rfl rfl (val_main_v30 (F := Ideal) x g wd bd)
      (val_main_v36 (F := Ideal) g) r s.isLt (by have := s.isLt; omega) (index_at' g r s h)).trans (log_at x g wd bd hg s)
  rw [parts_at, scores_at, shifted_at x g wd bd r s h, e, output, show group g r = BitVec.ofNat 32 s.val from h]

end Cert.ReferenceIdeal.Hand
end
-- ==== Proof.Precondition.lean ====
/- What the precondition says of the arguments: the embeddings and the device head are finite, so every device logit is,
   and every index is one of the sixteen groups. -/
module

public import proofs.«01_k».proof.Proof.Gen.Pre_tame
public import proofs.«01_k».proof.Proof.Math
public import Idealize.ShloMosaic.Lib.Pointwise
public import Idealize.ShloMosaic.PureOps.Ideal.Laws

@[expose] public section

set_option maxRecDepth 16384

noncomputable section

namespace Cert.Pre_tame.Hand

open Cert.Pre_tame
open Idealize.ShloMosaic
open Cert.Proof.Math

/-! ## Finite numbers -/

/-- A number whose absolute value is below +∞ is neither infinity. -/
theorem finite_of_abs {a : EReal} (h : max a (-a) < ⊤) : a ≠ ⊤ ∧ a ≠ ⊥ := by
  refine ⟨fun e => ?_, fun e => ?_⟩
  · rw [e] at h; simp at h
  · rw [e] at h; simp at h

theorem ofBits_inf : Ideal.ofBits .f32 2139095040#32 = (⊤ : EReal) := by
  simp [Ideal.ofBits, Ideal.ieee]

/-- The comparison with +∞ holds of finite numbers alone. -/
theorem finite_of_cmp {a : EReal}
    (h : BitVec.ofBool (decide (max a (-a) < Ideal.ofBits .f32 2139095040#32)) = 1#1) : a ≠ ⊤ ∧ a ≠ ⊥ := by
  rw [ofBits_inf] at h
  refine finite_of_abs (by_contra fun q => ?_)
  rw [decide_eq_false q] at h
  exact absurd h (by decide)

/-- A linear form of finite numbers is finite. -/
theorem device_real (x : (⟨2, ![32768, 128]⟩ : Shape).Idx → EReal) (w : (⟨2, ![128, 1]⟩ : Shape).Idx → EReal)
    (b : (⟨1, ![1]⟩ : Shape).Idx → EReal) (hx : ∀ i, x i ≠ ⊤ ∧ x i ≠ ⊥) (hw : ∀ i, w i ≠ ⊤ ∧ w i ≠ ⊥)
    (hb : ∀ i, b i ≠ ⊤ ∧ b i ≠ ⊥) (r : Fin 32768) : ∃ v : ℝ, device x w b r = v := by
  refine ⟨∑ k, (x (ix2 r k)).toReal * (w (ix2 k 0)).toReal + (b (ix1 0)).toReal, ?_⟩
  have term : ∀ k, x (ix2 r k) * w (ix2 k 0) = (((x (ix2 r k)).toReal * (w (ix2 k 0)).toReal : ℝ) : EReal) := fun k => by
    rw [EReal.coe_mul, EReal.coe_toReal (hx _).1 (hx _).2, EReal.coe_toReal (hw _).1 (hw _).2]
  rw [device, logit, EReal.coe_add, EReal.coe_toReal (hb _).1 (hb _).2]
  simp only [term]
  congr 1

/-! ## Index words -/

/-- A word from 0 to 15, read signed, is the word of a group. -/
theorem group_of_range (a : BitVec 32) (h0 : IntOp.cmpi .sge a 0#32 = 1#1) (h1 : IntOp.cmpi .slt a 16#32 = 1#1) :
    ∃ s : Fin 16, a = BitVec.ofNat 32 s.val := by
  have lo : 0 ≤ a.toInt := by
    by_contra q
    have : IntOp.cmpi .sge a 0#32 = 0#1 := by simp [IntOp.cmpi, BitVec.sle, q]
    rw [this] at h0; exact absurd h0 (by decide)
  have hi : a.toInt < 16 := by
    by_contra q
    have : IntOp.cmpi .slt a 16#32 = 0#1 := by simp [IntOp.cmpi, BitVec.slt, q]
    rw [this] at h1; exact absurd h1 (by decide)
  have n : a.toNat < 16 := by
    have := a.toInt_eq_toNat_cond
    have := a.isLt
    split at * <;> omega
  exact ⟨⟨a.toNat, n⟩, by simp⟩

/-! ## The precondition -/

variable [Cert.Pre_tame.Facts] (x : FVec Ideal S32768x128 .f32) (g : IVec S32768 32) (wd : FVec Ideal S128x1 .f32)
  (bd : FVec Ideal S1 .f32) (wa : FVec Ideal S128x8 .f32) (ba : FVec Ideal S8 .f32)

theorem x_finite (h : (fn (F := Ideal) x g wd bd wa ba).1 = fun _ => 1#1) (i : S32768x128.Idx) :
    x i ≠ ⊤ ∧ x i ≠ ⊥ := by
  have q := congrFun h i
  rw [eq_ix2 i] at q ⊢
  revert q
  pointwise [fn]
  exact finite_of_cmp

theorem wd_finite (h : (fn (F := Ideal) x g wd bd wa ba).2.1 = fun _ => 1#1) (i : S128x1.Idx) :
    wd i ≠ ⊤ ∧ wd i ≠ ⊥ := by
  have q := congrFun h i
  rw [eq_ix2 i] at q ⊢
  revert q
  pointwise [fn]
  exact finite_of_cmp

theorem bd_finite (h : (fn (F := Ideal) x g wd bd wa ba).2.2.1 = fun _ => 1#1) (i : S1.Idx) :
    bd i ≠ ⊤ ∧ bd i ≠ ⊥ := by
  have q := congrFun h i
  revert q
  pointwise [fn]
  exact finite_of_cmp

theorem in_group (h0 : (fn (F := Ideal) x g wd bd wa ba).2.2.2.1 = fun _ => 1#1)
    (h1 : (fn (F := Ideal) x g wd bd wa ba).2.2.2.2 = fun _ => 1#1) (r : Fin 32768) :
    ∃ s : Fin 16, g (ix1 r) = BitVec.ofNat 32 s.val := by
  have q0 := congrFun h0 (ix1 r)
  have q1 := congrFun h1 (ix1 r)
  exact group_of_range (g (ix1 r)) q0 q1

end Cert.Pre_tame.Hand

end
-- ==== Proof.lean ====
/- The claims, assembled: the three programs run to the end, leave their arguments unchanged and every counter at zero;
   the named constant is the mask's; the kernel's output array is the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.KernelFrame
public import proofs.«01_k».proof.Proof.Run
public import proofs.«01_k».proof.Proof.Array
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Hand.frame m ρ

theorem frame_ideal : Cert.quiescent_KernelIdeal := fun m ρ _ => Cert.KernelIdeal.Hand.frame m ρ

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

theorem preserves : Cert.preserves_Kernel_KernelIdeal :=
  IdealRules.named_const.statement Cert.KernelIdeal.κ "mask" .f32 0xF149F2CA#32 ⊥ rfl

/-- Under the precondition both programs end with the same array: `output` of the arguments. -/
theorem algebraic : Cert.algebraic_KernelIdeal_ReferenceIdeal_pre_tame := by
  intro m g m' g' pre same
  refine ⟨fun c => fun i : Cert.KernelIdeal.S32768x8.Idx =>
    Math.output (Cert.KernelIdeal.Hand.X m c) (Cert.KernelIdeal.Hand.Gr m c) (Cert.KernelIdeal.Hand.Wd m c)
      (Cert.KernelIdeal.Hand.Bd m c) (Cert.KernelIdeal.Hand.Wa m c) (Cert.KernelIdeal.Hand.Ba m c) (i 0) (i 1), ?_, ?_⟩
  · refine (θ_run Cert.KernelIdeal.defs _ _).mono (fun r h c => ⟨(h.1 c).trans ?_, h.2.1 c⟩)
      (θ_run_and (Cert.KernelIdeal.Hand.result m g) (Cert.KernelIdeal.Hand.frame m g))
    obtain ⟨hx, hw, hb, h0, h1⟩ := pre c
    have real := Cert.Pre_tame.Hand.device_real (Cert.KernelIdeal.Hand.X m c) (Cert.KernelIdeal.Hand.Wd m c)
      (Cert.KernelIdeal.Hand.Bd m c) (Cert.Pre_tame.Hand.x_finite _ _ _ _ _ _ hx)
      (Cert.Pre_tame.Hand.wd_finite _ _ _ _ _ _ hw) (Cert.Pre_tame.Hand.bd_finite _ _ _ _ _ _ hb)
    refine Cert.KernelIdeal.Hand.array_eq m c (fun r => ?_) (fun r => ?_) (Cert.Pre_tame.Hand.in_group _ _ _ _ _ _ h0 h1)
    · obtain ⟨v, hv⟩ := real r
      exact fun q => EReal.coe_ne_top v (hv.symm.trans q)
    · obtain ⟨v, hv⟩ := real r
      exact fun q => EReal.coe_ne_bot v (hv.symm.trans q)
  · refine (θ_run Cert.ReferenceIdeal.defs _ _).mono (fun r h c => ⟨(h c).1.trans ?_, (h c).2⟩)
      (Cert.ReferenceIdeal.Value.run m' g')
    obtain ⟨e0, e1, e2, e3, e4, e5⟩ := same c
    obtain ⟨_, _, _, h0, h1⟩ := pre c
    rw [Cert.ReferenceIdeal.Read.val_main_v42_eq, e0, e1, e2, e3, e4, e5]
    funext i
    rw [eq_ix2 (i : Cert.KernelIdeal.S32768x8.Idx)]
    exact Cert.ReferenceIdeal.Hand.output_at _ _ _ _ _ _ (Cert.Pre_tame.Hand.in_group _ _ _ _ _ _ h0 h1) (i 0) (i 1)

theorem claim : Cert.Claim :=
  ⟨Cert.Kernel.Gen.facts, Cert.KernelIdeal.Gen.facts, Cert.ReferenceIdeal.Gen.facts, Cert.Pre_tame.Gen.facts, frame_kernel,
    frame_ideal, fun m ρ _ => Cert.KernelIdeal.Hand.frame m ρ, frame_reference, fun m ρ _ => frame_reference m ρ trivial, preserves, algebraic⟩

end Cert.Proof

end
